-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "absent" .f32 0xF149F2CA#32 ⊥
  ∧ IdealRules.named_const.Statement Cert.KernelIdeal.κ "mask" .f32 0xCE6E6B28#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S1x2048x1024 : Shape := ⟨3, ![1, 2048, 1024]⟩
abbrev S1024x1536 : Shape := ⟨2, ![1024, 1536]⟩
abbrev S1024x768 : Shape := ⟨2, ![1024, 768]⟩
abbrev S1024x6 : Shape := ⟨2, ![1024, 6]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x6 : S_.BroadcastsInDim S1024x6 (![] : Fin 0 → Fin S1024x6.rank)
  reducesTo_S1024x6_S_d0_1 : S1024x6.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024x768 : S_.BroadcastsInDim S1024x768 (![] : Fin 0 → Fin S1024x768.rank)
  reducesTo_S1024x768_S_d0_1 : S1024x768.ReducesTo [0, 1] S_

variable [Facts]

def fn_part1 {F : FTy → Type} [FloatOps F] (main_v13 : IVec S_ 1) (main_v16 : IVec S1024x768 1) : IVec S_ 1 :=
  let main_c_5 : IVec S_ 1 := constantI S_ 1 1#1
  let main_v17 : IVec S_ 1 := (fun x v => Host.reduce IntOp.andi x v reducesTo_S1024x768_S_d0_1 h_S_) main_v16 main_c_5
  let main_v18 : IVec S_ 1 := andi main_v13 main_v17
  main_v18

def fn {F : FTy → Type} [FloatOps F] (main_arg0 : FVec F S1x2048x1024 .f32) (main_arg1 : FVec F S1024x1536 .f32) (main_arg2 : FVec F S1024x768 .f32) (main_arg3 : FVec F S1024x768 .f32) (main_arg4 : FVec F S1024x6 .f32) (main_arg5 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x6 .f32 := Host.absf main_arg4
  let main_cst_0 : FVec F S_ .f32 := constant S_ .f32 0x7F800000#32
  let main_v5 : FVec F S1024x6 .f32 := broadcastInDim S1024x6 ![] bcast_S_S1024x6 main_cst_0
  let main_v6 : IVec S1024x6 1 := cmpf .olt main_v4 main_v5
  let main_c_1 : IVec S_ 1 := constantI S_ 1 1#1
  let main_v7 : IVec S_ 1 := (fun x v => Host.reduce IntOp.andi x v reducesTo_S1024x6_S_d0_1 h_S_) main_v6 main_c_1
  let main_v8 : IVec S_ 1 := andi main_v3 main_v7
  let main_v9 : FVec F S1024x1536 .f32 := Host.absf main_arg1
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  let main_c_3 : IVec S_ 1 := constantI S_ 1 1#1
  let main_v12 : IVec S_ 1 := (fun x v => Host.reduce IntOp.andi x v reducesTo_S1024x1536_S_d0_1 h_S_) main_v11 main_c_3
  let main_v13 : IVec S_ 1 := andi main_v8 main_v12
  let main_v14 : FVec F S1024x768 .f32 := Host.absf main_arg2
  let main_cst_4 : FVec F S_ .f32 := constant S_ .f32 0x7F800000#32
  let main_v15 : FVec F S1024x768 .f32 := broadcastInDim S1024x768 ![] bcast_S_S1024x768 main_cst_4
  let main_v16 : IVec S1024x768 1 := cmpf .olt main_v14 main_v15
  fn_part1 (F := F) main_v13 main_v16
-- ==== Kernel.lean ====
abbrev S1x2048x1024 : Shape := ⟨3, ![1, 2048, 1024]⟩
abbrev S1024x1536 : Shape := ⟨2, ![1024, 1536]⟩
abbrev S1024x768 : Shape := ⟨2, ![1024, 768]⟩
abbrev S1024x6 : Shape := ⟨2, ![1024, 6]⟩
abbrev S1024x1024 : Shape := ⟨2, ![1024, 1024]⟩
abbrev S2048x1024 : Shape := ⟨2, ![2048, 1024]⟩
abbrev S_ : Shape := ⟨0, ![]⟩
abbrev S1024x128 : Shape := ⟨2, ![1024, 128]⟩
abbrev S1 : Shape := ⟨1, ![1]⟩
abbrev S2048x128 : Shape := ⟨2, ![2048, 128]⟩
abbrev S2048x8 : Shape := ⟨2, ![2048, 8]⟩
abbrev S1x1 : Shape := ⟨2, ![1, 1]⟩
abbrev S256x1024 : Shape := ⟨2, ![256, 1024]⟩
abbrev S256x128 : Shape := ⟨2, ![256, 128]⟩
abbrev S256x8 : Shape := ⟨2, ![256, 8]⟩
abbrev S1x128 : Shape := ⟨2, ![1, 128]⟩
abbrev S256 : Shape := ⟨1, ![256]⟩
abbrev S256x1 : Shape := ⟨2, ![256, 1]⟩
abbrev S128 : Shape := ⟨1, ![128]⟩
abbrev S1x256x1 : Shape := ⟨3, ![1, 256, 1]⟩
abbrev S1x1x1 : Shape := ⟨3, ![1, 1, 1]⟩
abbrev S1x1x128 : Shape := ⟨3, ![1, 1, 128]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S12x2048x128 : Shape := ⟨3, ![12, 2048, 128]⟩
abbrev S6x2048x128 : Shape := ⟨3, ![6, 2048, 128]⟩
abbrev S12x256x128 : Shape := ⟨3, ![12, 256, 128]⟩
abbrev S6x256x128 : Shape := ⟨3, ![6, 256, 128]⟩
abbrev S256x1536 : Shape := ⟨2, ![256, 1536]⟩
abbrev S256x64 : Shape := ⟨2, ![256, 64]⟩
abbrev S1x256x128 : Shape := ⟨3, ![1, 256, 128]⟩
abbrev S256x768 : Shape := ⟨2, ![256, 768]⟩
abbrev S8x2048 : Shape := ⟨2, ![8, 2048]⟩
abbrev S8x1x2048 : Shape := ⟨3, ![8, 1, 2048]⟩
abbrev S6x512x256 : Shape := ⟨3, ![6, 512, 256]⟩
abbrev S2x256x128 : Shape := ⟨3, ![2, 256, 128]⟩
abbrev S1x512x128 : Shape := ⟨3, ![1, 512, 128]⟩
abbrev S1x1x512 : Shape := ⟨3, ![1, 1, 512]⟩
abbrev S1x256x256 : Shape := ⟨3, ![1, 256, 256]⟩
abbrev S512x128 : Shape := ⟨2, ![512, 128]⟩
abbrev S1x512 : Shape := ⟨2, ![1, 512]⟩
abbrev S256x512 : Shape := ⟨2, ![256, 512]⟩
abbrev S1x1024x128 : Shape := ⟨3, ![1, 1024, 128]⟩
abbrev S1x1x1024 : Shape := ⟨3, ![1, 1, 1024]⟩
abbrev S1x1024 : Shape := ⟨2, ![1, 1024]⟩
abbrev S1x1536x128 : Shape := ⟨3, ![1, 1536, 128]⟩
abbrev S1x1x1536 : Shape := ⟨3, ![1, 1, 1536]⟩
abbrev S1536x128 : Shape := ⟨2, ![1536, 128]⟩
abbrev S1x1536 : Shape := ⟨2, ![1, 1536]⟩
abbrev S1x2048x128 : Shape := ⟨3, ![1, 2048, 128]⟩
abbrev S1x1x2048 : Shape := ⟨3, ![1, 1, 2048]⟩
abbrev S1x2048 : Shape := ⟨2, ![1, 2048]⟩
abbrev S256x2048 : Shape := ⟨2, ![256, 2048]⟩
abbrev S6x2048x256 : Shape := ⟨3, ![6, 2048, 256]⟩
abbrev S6x256x256 : Shape := ⟨3, ![6, 256, 256]⟩
abbrev S256x256 : Shape := ⟨2, ![256, 256]⟩

abbrev nBuf : Space → Nat
  | .hbm => 54
  | .vmem => 77
  | .smem => 0
  | _ => 0

abbrev bufTy : (tb : Table) → Fin (tcTables nBuf tb) → BufTy
  | .hbm, ⟨0, _⟩ => ⟨S1x2048x1024, .f32⟩
  | .hbm, ⟨1, _⟩ => ⟨S1024x1536, .f32⟩
  | .hbm, ⟨2, _⟩ => ⟨S1024x768, .f32⟩
  | .hbm, ⟨3, _⟩ => ⟨S1024x768, .f32⟩
  | .hbm, ⟨4, _⟩ => ⟨S1024x6, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S1024x128, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S2048x128, .i32⟩
  | .hbm, ⟨13, _⟩ => ⟨S2048x128, .f32⟩
  | .hbm, ⟨14, _⟩ => ⟨S2048x8, .f32⟩
  | .hbm, ⟨15, _⟩ => ⟨S1x1, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S2048, .f32⟩
  | .hbm, ⟨33, _⟩ => ⟨S2048x1, .f32⟩
  | .hbm, ⟨34, _⟩ => ⟨S1x64, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S12x2048x128, .f32⟩
  | .hbm, ⟨42, _⟩ => ⟨S6x2048x128, .f32⟩
  | .hbm, ⟨43, _⟩ => ⟨S6x2048x128, .f32⟩
  | .hbm, ⟨44, _⟩ => ⟨S8x2048, .f32⟩
  | .hbm, ⟨45, _⟩ => ⟨S8x1x2048, .f32⟩
  | .hbm, ⟨46, _⟩ => ⟨S6x512x256, .f32⟩
  | .hbm, ⟨47, _⟩ => ⟨S6x512x256, .f32⟩
  | .hbm, ⟨48, _⟩ => ⟨S6x512x256, .f32⟩
  | .hbm, ⟨49, _⟩ => ⟨S6x512x256, .f32⟩
  | .hbm, ⟨50, _⟩ => ⟨S6x2048x256, .f32⟩
  | .hbm, ⟨51, _⟩ => ⟨S2048x1024, .f32⟩
  | .hbm, ⟨52, _⟩ => ⟨S1x2048x1024, .f32⟩
  | .hbm, ⟨53, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1024x128, .f32⟩
  | .local _ .vmem, ⟨3, _⟩ => ⟨S256x128, .i32⟩
  | .local _ .vmem, ⟨4, _⟩ => ⟨S256x128, .i32⟩
  | .local _ .vmem, ⟨5, _⟩ => ⟨S256x128, .f32⟩
  | .local _ .vmem, ⟨6, _⟩ => ⟨S256x128, .f32⟩
  | .local _ .vmem, ⟨7, _⟩ => ⟨S256x8, .f32⟩
  | .local _ .vmem, ⟨8, _⟩ => ⟨S256x8, .f32⟩
  | .local _ .vmem, ⟨9, _⟩ => ⟨S1x1, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S256x1024, .f32⟩
  | .local _ .vmem, ⟨14, _⟩ => ⟨S256x1024, .f32⟩
  | .local _ .vmem, ⟨15, _⟩ => ⟨S1024x1536, .f32⟩
  | .local _ .vmem, ⟨16, _⟩ => ⟨S1024x768, .f32⟩
  | .local _ .vmem, ⟨17, _⟩ => ⟨S1024x768, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S12x256x128, .f32⟩
  | .local _ .vmem, ⟨23, _⟩ => ⟨S12x256x128, .f32⟩
  | .local _ .vmem, ⟨24, _⟩ => ⟨S6x256x128, .f32⟩
  | .local _ .vmem, ⟨25, _⟩ => ⟨S6x256x128, .f32⟩
  | .local _ .vmem, ⟨26, _⟩ => ⟨S6x256x128, .f32⟩
  | .local _ .vmem, ⟨27, _⟩ => ⟨S6x256x128, .f32⟩
  | .local _ .vmem, ⟨28, _⟩ => ⟨S2x256x128, .f32⟩
  | .local _ .vmem, ⟨29, _⟩ => ⟨S2x256x128, .f32⟩
  | .local _ .vmem, ⟨30, _⟩ => ⟨S1x512x128, .f32⟩
  | .local _ .vmem, ⟨31, _⟩ => ⟨S1x512x128, .f32⟩
  | .local _ .vmem, ⟨32, _⟩ => ⟨S1x512x128, .f32⟩
  | .local _ .vmem, ⟨33, _⟩ => ⟨S1x512x128, .f32⟩
  | .local _ .vmem, ⟨34, _⟩ => ⟨S1x1x512, .f32⟩
  | .local _ .vmem, ⟨35, _⟩ => ⟨S1x1x512, .f32⟩
  | .local _ .vmem, ⟨36, _⟩ => ⟨S1x256x256, .f32⟩
  | .local _ .vmem, ⟨37, _⟩ => ⟨S1x256x256, .f32⟩
  | .local _ .vmem, ⟨38, _⟩ => ⟨S2x256x128, .f32⟩
  | .local _ .vmem, ⟨39, _⟩ => ⟨S2x256x128, .f32⟩
  | .local _ .vmem, ⟨40, _⟩ => ⟨S1x1024x128, .f32⟩
  | .local _ .vmem, ⟨41, _⟩ => ⟨S1x1024x128, .f32⟩
  | .local _ .vmem, ⟨42, _⟩ => ⟨S1x1024x128, .f32⟩
  | .local _ .vmem, ⟨43, _⟩ => ⟨S1x1024x128, .f32⟩
  | .local _ .vmem, ⟨44, _⟩ => ⟨S1x1x1024, .f32⟩
  | .local _ .vmem, ⟨45, _⟩ => ⟨S1x1x1024, .f32⟩
  | .local _ .vmem, ⟨46, _⟩ => ⟨S1x256x256, .f32⟩
  | .local _ .vmem, ⟨47, _⟩ => ⟨S1x256x256, .f32⟩
  | .local _ .vmem, ⟨48, _⟩ => ⟨S2x256x128, .f32⟩
  | .local _ .vmem, ⟨49, _⟩ => ⟨S2x256x128, .f32⟩
  | .local _ .vmem, ⟨50, _⟩ => ⟨S1x1536x128, .f32⟩
  | .local _ .vmem, ⟨51, _⟩ => ⟨S1x1536x128, .f32⟩
  | .local _ .vmem, ⟨52, _⟩ => ⟨S1x1536x128, .f32⟩
  | .local _ .vmem, ⟨53, _⟩ => ⟨S1x1536x128, .f32⟩
  | .local _ .vmem, ⟨54, _⟩ => ⟨S1x1x1536, .f32⟩
  | .local _ .vmem, ⟨55, _⟩ => ⟨S1x1x1536, .f32⟩
  | .local _ .vmem, ⟨56, _⟩ => ⟨S1x256x256, .f32⟩
  | .local _ .vmem, ⟨57, _⟩ => ⟨S1x256x256, .f32⟩
  | .local _ .vmem, ⟨58, _⟩ => ⟨S2x256x128, .f32⟩
  | .local _ .vmem, ⟨59, _⟩ => ⟨S2x256x128, .f32⟩
  | .local _ .vmem, ⟨60, _⟩ => ⟨S1x2048x128, .f32⟩
  | .local _ .vmem, ⟨61, _⟩ => ⟨S1x2048x128, .f32⟩
  | .local _ .vmem, ⟨62, _⟩ => ⟨S1x2048x128, .f32⟩
  | .local _ .vmem, ⟨63, _⟩ => ⟨S1x2048x128, .f32⟩
  | .local _ .vmem, ⟨64, _⟩ => ⟨S1x1x2048, .f32⟩
  | .local _ .vmem, ⟨65, _⟩ => ⟨S1x1x2048, .f32⟩
  | .local _ .vmem, ⟨66, _⟩ => ⟨S1x256x256, .f32⟩
  | .local _ .vmem, ⟨67, _⟩ => ⟨S1x256x256, .f32⟩
  | .local _ .vmem, ⟨68, _⟩ => ⟨S6x256x256, .f32⟩
  | .local _ .vmem, ⟨69, _⟩ => ⟨S6x256x256, .f32⟩
  | .local _ .vmem, ⟨70, _⟩ => ⟨S256x128, .i32⟩
  | .local _ .vmem, ⟨71, _⟩ => ⟨S256x128, .i32⟩
  | .local _ .vmem, ⟨72, _⟩ => ⟨S256x128, .f32⟩
  | .local _ .vmem, ⟨73, _⟩ => ⟨S256x128, .f32⟩
  | .local _ .vmem, ⟨74, _⟩ => ⟨S1024x1024, .f32⟩
  | .local _ .vmem, ⟨75, _⟩ => ⟨S256x1024, .f32⟩
  | .local _ .vmem, ⟨76, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg4_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg4_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc6_stg3_0 : Ref sig .tc := ⟨.vmem, 74, rfl⟩
abbrev cc6_stg4_0 : Ref sig .tc := ⟨.vmem, 75, rfl⟩
abbrev cc6_stg4_1 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem3_1 : DmaSem sig := 52
abbrev cc4_sem4_0 : DmaSem sig := 53
abbrev cc4_sem4_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem3_1 : DmaSem sig := 62
abbrev cc5_sem4_0 : DmaSem sig := 63
abbrev cc5_sem4_1 : DmaSem sig := 64
abbrev cc6_sem0_0 : DmaSem sig := 65
abbrev cc6_sem0_1 : DmaSem sig := 66
abbrev cc6_sem1_0 : DmaSem sig := 67
abbrev cc6_sem1_1 : DmaSem sig := 68
abbrev cc6_sem2_0 : DmaSem sig := 69
abbrev cc6_sem2_1 : DmaSem sig := 70
abbrev cc6_sem3_0 : DmaSem sig := 71
abbrev cc6_sem4_0 : DmaSem sig := 72
abbrev cc6_sem4_1 : DmaSem sig := 73

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v188 : BitVec 1 := Scalar.cmpi .eq arg0 c7_i32
  let v189 : BitVec 32 := Scalar.extui v188
  let c0_i32_58 : BitVec 32 := 0#32
  let v190 : BitVec 1 := Scalar.cmpi .ne v189 c0_i32_58
  v190

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S12x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S6x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![6, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S2x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![6, 2], ![false, false]⟩

def cc3_transform_0 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S2x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![6, 2], ![false, false]⟩

def cc4_transform_0 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S2x256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1536x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1536x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1x1536 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x256x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![6, 2], ![false, false]⟩

def cc5_transform_0 (i : grid5.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, v0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S2x256x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x1x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x256x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6x256x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x128 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1024x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]
-- ==== KernelIdeal.lean ====
variable {F : FTy → Type} [FloatOps F] [Named F]
def κ : String → Option EReal := fun
  | "absent" => some ⊥
  | "mask" => some ⊥
  | _ => none
-- ==== ReferenceIdeal.lean ====
abbrev S1x2048x1024 : Shape := ⟨3, ![1, 2048, 1024]⟩
abbrev S1024x1536 : Shape := ⟨2, ![1024, 1536]⟩
abbrev S1024x768 : Shape := ⟨2, ![1024, 768]⟩
abbrev S1024x6 : Shape := ⟨2, ![1024, 6]⟩
abbrev S1024x1024 : Shape := ⟨2, ![1024, 1024]⟩
abbrev S1x2048x6 : Shape := ⟨3, ![1, 2048, 6]⟩
abbrev S_ : Shape := ⟨0, ![]⟩
abbrev S1x2048 : Shape := ⟨2, ![1, 2048]⟩
abbrev S1x2048x1 : Shape := ⟨3, ![1, 2048, 1]⟩
abbrev S1x2048x4 : Shape := ⟨3, ![1, 2048, 4]⟩
abbrev S1x1x6 : Shape := ⟨3, ![1, 1, 6]⟩
abbrev S1x6 : Shape := ⟨2, ![1, 6]⟩
abbrev S1 : Shape := ⟨1, ![1]⟩
abbrev S1x2048x1536 : Shape := ⟨3, ![1, 2048, 1536]⟩
abbrev S1x2048x6x2x128 : Shape := ⟨5, ![1, 2048, 6, 2, 128]⟩
abbrev S1x2048x768 : Shape := ⟨3, ![1, 2048, 768]⟩
abbrev S1x2048x6x128 : Shape := ⟨4, ![1, 2048, 6, 128]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x1x128 : Shape := ⟨5, ![1, 2048, 1, 1, 128]⟩
abbrev S1x2048x6x2x64 : Shape := ⟨5, ![1, 2048, 6, 2, 64]⟩
abbrev S1x2048x1x128 : Shape := ⟨4, ![1, 2048, 1, 128]⟩
abbrev S1x2048x6x64 : Shape := ⟨4, ![1, 2048, 6, 64]⟩
abbrev S1x2048x4x1 : Shape := ⟨4, ![1, 2048, 4, 1]⟩
abbrev S6 : Shape := ⟨1, ![6]⟩
abbrev S1x1x1x6 : Shape := ⟨4, ![1, 1, 1, 6]⟩
abbrev S1x2048x4x6 : Shape := ⟨4, ![1, 2048, 4, 6]⟩
abbrev S1x6x2048x2048x2 : Shape := ⟨5, ![1, 6, 2048, 2048, 2]⟩
abbrev S1x6x2x2048x2048 : Shape := ⟨5, ![1, 6, 2, 2048, 2048]⟩
abbrev S2048x2048 : Shape := ⟨2, ![2048, 2048]⟩
abbrev S1x6x2048 : Shape := ⟨3, ![1, 6, 2048]⟩
abbrev S1x6x1x1x2048 : Shape := ⟨5, ![1, 6, 1, 1, 2048]⟩
abbrev S1x1x1x2048x2048 : Shape := ⟨5, ![1, 1, 1, 2048, 2048]⟩
abbrev S1x6x1x2048x2048 : Shape := ⟨5, ![1, 6, 1, 2048, 2048]⟩
abbrev S1x6x2x2048 : Shape := ⟨4, ![1, 6, 2, 2048]⟩
abbrev S1x6x2x2048x1 : Shape := ⟨5, ![1, 6, 2, 2048, 1]⟩
abbrev S1x6x128x2x2048 : Shape := ⟨5, ![1, 6, 128, 2, 2048]⟩
abbrev S1x2048x4x1x1 : Shape := ⟨5, ![1, 2048, 4, 1, 1]⟩
abbrev S1x2048x4x2x128 : Shape := ⟨5, ![1, 2048, 4, 2, 128]⟩
abbrev S2048x4x2x128x1 : Shape := ⟨5, ![2048, 4, 2, 128, 1]⟩
abbrev S1x1x1x1x1 : Shape := ⟨5, ![1, 1, 1, 1, 1]⟩
abbrev S2048x4x2x128 : Shape := ⟨4, ![2048, 4, 2, 128]⟩

abbrev nBuf : Space → Nat
  | .hbm => 216
  | .vmem => 0
  | .smem => 0
  | _ => 0

abbrev hbmTy0_0 (i : Nat) : BufTy := match i % 128 with
  | 0 => ⟨S1x2048x1024, .f32⟩
  | 1 => ⟨S1024x1536, .f32⟩
  | 2 => ⟨S1024x768, .f32⟩
  | 3 => ⟨S1024x768, .f32⟩
  | 4 => ⟨S1024x6, .f32⟩
  | 5 => ⟨S1024x1024, .f32⟩
  | 6 => ⟨S1x2048x6, .f32⟩
  | 7 => ⟨S_, .f32⟩
  | 8 => ⟨S1x2048, .f32⟩
  | 9 => ⟨S_, .f32⟩
  | 10 => ⟨S1x2048, .f32⟩
  | 11 => ⟨S1x2048, .f32⟩
  | 12 => ⟨S1x2048x1, .f32⟩
  | 13 => ⟨S1x2048x6, .f32⟩
  | 14 => ⟨S1x2048x6, .f32⟩
  | 15 => ⟨S1x2048x6, .f32⟩
  | 16 => ⟨S_, .f32⟩
  | 17 => ⟨S1x2048, .f32⟩
  | 18 => ⟨S1x2048x1, .f32⟩
  | 19 => ⟨S1x2048x6, .f32⟩
  | 20 => ⟨S1x2048x6, .f32⟩
  | 21 => ⟨S1x2048x4, .f32⟩
  | 22 => ⟨S1x2048x4, .i32⟩
  | 23 => ⟨S_, .f32⟩
  | 24 => ⟨S1x2048, .f32⟩
  | 25 => ⟨S_, .f32⟩
  | 26 => ⟨S1x2048, .f32⟩
  | 27 => ⟨S1x2048, .f32⟩
  | 28 => ⟨S1x2048x1, .f32⟩
  | 29 => ⟨S1x2048x4, .f32⟩
  | 30 => ⟨S1x2048x4, .f32⟩
  | 31 => ⟨S1x2048x4, .f32⟩
  | 32 => ⟨S_, .f32⟩
  | 33 => ⟨S1x2048, .f32⟩
  | 34 => ⟨S1x2048x1, .f32⟩
  | 35 => ⟨S1x2048x4, .f32⟩
  | 36 => ⟨S1x2048x4, .f32⟩
  | 37 => ⟨S1x2048x1, .i32⟩
  | 38 => ⟨S1x2048, .i32⟩
  | 39 => ⟨S1x2048x1, .i32⟩
  | 40 => ⟨S1x1x6, .i32⟩
  | 41 => ⟨S1x2048x6, .i32⟩
  | 42 => ⟨S1x2048x6, .i32⟩
  | 43 => ⟨S1x2048x6, .i1⟩
  | 44 => ⟨S1x2048x6, .f32⟩
  | 45 => ⟨S_, .f32⟩
  | 46 => ⟨S1x6, .f32⟩
  | 47 => ⟨S_, .f32⟩
  | 48 => ⟨S1x6, .f32⟩
  | 49 => ⟨S1x6, .f32⟩
  | 50 => ⟨S_, .f32⟩
  | 51 => ⟨S1x6, .f32⟩
  | 52 => ⟨S_, .f32⟩
  | 53 => ⟨S1x6, .f32⟩
  | 54 => ⟨S1x6, .f32⟩
  | 55 => ⟨S1x6, .f32⟩
  | 56 => ⟨S_, .f32⟩
  | 57 => ⟨S1, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1x2048x6, .f32⟩
  | 66 => ⟨S1x2048x6, .f32⟩
  | 67 => ⟨S1x2048x6, .f32⟩
  | 68 => ⟨S1x2048x6, .f32⟩
  | 69 => ⟨S_, .f32⟩
  | 70 => ⟨S1x2048, .f32⟩
  | 71 => ⟨S1x2048, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1x2048x1536, .f32⟩
  | 83 => ⟨S1x2048x6x2x128, .f32⟩
  | 84 => ⟨S1x2048x768, .f32⟩
  | 85 => ⟨S1x2048x6x128, .f32⟩
  | 86 => ⟨S1x2048x768, .f32⟩
  | 87 => ⟨S1x2048x6x128, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S_, .f32⟩
  | 102 => ⟨S64, .f32⟩
  | 103 => ⟨S64, .f32⟩
  | 104 => ⟨S2048, .f32⟩
  | 105 => ⟨S2048x1, .f32⟩
  | 106 => ⟨S1x64, .f32⟩
  | 107 => ⟨S2048x64, .f32⟩
  | 108 => ⟨S2048x64, .f32⟩
  | 109 => ⟨S2048x64, .f32⟩
  | 110 => ⟨S2048x128, .f32⟩
  | 111 => ⟨S2048x128, .f32⟩
  | 112 => ⟨S2048x128, .f32⟩
  | 113 => ⟨S1x2048x1x1x128, .f32⟩
  | 114 => ⟨S1x2048x6x2x128, .f32⟩
  | 115 => ⟨S1x2048x6x2x128, .f32⟩
  | 116 => ⟨S1x2048x6x2x64, .f32⟩
  | 117 => ⟨S1x2048x6x2x64, .f32⟩
  | 118 => ⟨S1x2048x6x2x64, .f32⟩
  | 119 => ⟨S1x2048x6x2x128, .f32⟩
  | 120 => ⟨S1x2048x1x1x128, .f32⟩
  | 121 => ⟨S1x2048x6x2x128, .f32⟩
  | 122 => ⟨S1x2048x6x2x128, .f32⟩
  | 123 => ⟨S1x2048x6x2x128, .f32⟩
  | 124 => ⟨S1x2048x1x128, .f32⟩
  | 125 => ⟨S1x2048x6x128, .f32⟩
  | 126 => ⟨S1x2048x6x128, .f32⟩
  | 127 => ⟨S1x2048x6x64, .f32⟩
  | _ => ⟨S1x2048x1024, .f32⟩

abbrev hbmTy0_1 (i : Nat) : BufTy := match i % 128 with
  | 0 => ⟨S1x2048x6x64, .f32⟩
  | 1 => ⟨S1x2048x6x64, .f32⟩
  | 2 => ⟨S1x2048x6x128, .f32⟩
  | 3 => ⟨S1x2048x1x128, .f32⟩
  | 4 => ⟨S1x2048x6x128, .f32⟩
  | 5 => ⟨S1x2048x6x128, .f32⟩
  | 6 => ⟨S1x2048x6x128, .f32⟩
  | 7 => ⟨S1x2048x4x1, .i32⟩
  | 8 => ⟨S6, .i32⟩
  | 9 => ⟨S1x1x1x6, .i32⟩
  | 10 => ⟨S1x2048x4x6, .i32⟩
  | 11 => ⟨S1x2048x4x6, .i32⟩
  | 12 => ⟨S1x2048x4x6, .i1⟩
  | 13 => ⟨S_, .i1⟩
  | 14 => ⟨S1x2048x6, .i1⟩
  | 15 => ⟨S1x6x2048x2048x2, .f32⟩
  | 16 => ⟨S1x6x2x2048x2048, .f32⟩
  | 17 => ⟨S_, .f32⟩
  | 18 => ⟨S1x6x2x2048x2048, .f32⟩
  | 19 => ⟨S1x6x2x2048x2048, .f32⟩
  | 20 => ⟨S_, .i1⟩
  | 21 => ⟨S2048x2048, .i1⟩
  | 22 => ⟨S2048x2048, .i32⟩
  | 23 => ⟨S_, .i32⟩
  | 24 => ⟨S2048x2048, .i32⟩
  | 25 => ⟨S2048x2048, .i32⟩
  | 26 => ⟨S2048x2048, .i32⟩
  | 27 => ⟨S2048x2048, .i1⟩
  | 28 => ⟨S_, .i1⟩
  | 29 => ⟨S2048x2048, .i1⟩
  | 30 => ⟨S2048x2048, .i1⟩
  | 31 => ⟨S1x6x2048, .i1⟩
  | 32 => ⟨S1x6x1x1x2048, .i1⟩
  | 33 => ⟨S1x1x1x2048x2048, .i1⟩
  | 34 => ⟨S1x6x1x2048x2048, .i1⟩
  | 35 => ⟨S1x6x1x2048x2048, .i1⟩
  | 36 => ⟨S1x6x1x2048x2048, .i1⟩
  | 37 => ⟨S_, .f32⟩
  | 38 => ⟨S_, .f32⟩
  | 39 => ⟨S1x6x2x2048x2048, .i1⟩
  | 40 => ⟨S1x6x2x2048x2048, .f32⟩
  | 41 => ⟨S1x6x2x2048x2048, .f32⟩
  | 42 => ⟨S_, .f32⟩
  | 43 => ⟨S1x6x2x2048, .f32⟩
  | 44 => ⟨S_, .f32⟩
  | 45 => ⟨S1x6x2x2048, .f32⟩
  | 46 => ⟨S1x6x2x2048, .f32⟩
  | 47 => ⟨S1x6x2x2048x1, .f32⟩
  | 48 => ⟨S1x6x2x2048x2048, .f32⟩
  | 49 => ⟨S1x6x2x2048x2048, .f32⟩
  | 50 => ⟨S1x6x2x2048x2048, .f32⟩
  | 51 => ⟨S_, .f32⟩
  | 52 => ⟨S1x6x2x2048, .f32⟩
  | 53 => ⟨S1x6x2x2048x1, .f32⟩
  | 54 => ⟨S1x6x2x2048x2048, .f32⟩
  | 55 => ⟨S1x6x2x2048x2048, .f32⟩
  | 56 => ⟨S1x6x128x2x2048, .f32⟩
  | 57 => ⟨S1x2048x6x2x128, .f32⟩
  | 58 => ⟨S1x2048x4x1x1, .i32⟩
  | 59 => ⟨S1x2048x4x2x128, .i32⟩
  | 60 => ⟨S_, .i32⟩
  | 61 => ⟨S1x2048x4x2x128, .i32⟩
  | 62 => ⟨S1x2048x4x2x128, .i1⟩
  | 63 => ⟨S_, .i32⟩
  | 64 => ⟨S1x2048x4x2x128, .i32⟩
  | 65 => ⟨S1x2048x4x2x128, .i32⟩
  | 66 => ⟨S1x2048x4x2x128, .i32⟩
  | 67 => ⟨S2048x4x2x128x1, .i32⟩
  | 68 => ⟨S1, .i32⟩
  | 69 => ⟨S_, .i32⟩
  | 70 => ⟨S2048x4x2x128x1, .i32⟩
  | 71 => ⟨S2048x4x2x128x1, .i1⟩
  | 72 => ⟨S1x1x1x1x1, .i32⟩
  | 73 => ⟨S2048x4x2x128x1, .i32⟩
  | 74 => ⟨S2048x4x2x128x1, .i1⟩
  | 75 => ⟨S2048x4x2x128x1, .i1⟩
  | 76 => ⟨S_, .i1⟩
  | 77 => ⟨S2048x4x2x128, .i1⟩
  | 78 => ⟨S1x2048x4x2x128, .f32⟩
  | 79 => ⟨S1x2048x4x2x128, .i1⟩
  | 80 => ⟨S_, .f32⟩
  | 81 => ⟨S1x2048x4x2x128, .f32⟩
  | 82 => ⟨S1x2048x4x2x128, .f32⟩
  | 83 => ⟨S1x2048x4x1x1, .f32⟩
  | 84 => ⟨S1x2048x4x2x128, .f32⟩
  | 85 => ⟨S1x2048x4x2x128, .f32⟩
  | 86 => ⟨S1x2048x1024, .f32⟩
  | 87 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_cst_16 : Ref sig .tc := ⟨.hbm, 74, rfl⟩
abbrev main_v44 : Ref sig .tc := ⟨.hbm, 75, rfl⟩
abbrev main_cst_17 : Ref sig .tc := ⟨.hbm, 76, rfl⟩
abbrev main_v45 : Ref sig .tc := ⟨.hbm, 77, rfl⟩
abbrev main_v46 : Ref sig .tc := ⟨.hbm, 78, rfl⟩
abbrev main_cst_18 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_19 : Ref sig .tc := ⟨.hbm, 89, rfl⟩
abbrev main_v56 : Ref sig .tc := ⟨.hbm, 90, rfl⟩
abbrev main_v57 : Ref sig .tc := ⟨.hbm, 91, rfl⟩
abbrev main_cst_20 : Ref sig .tc := ⟨.hbm, 92, rfl⟩
abbrev main_v58 : Ref sig .tc := ⟨.hbm, 93, rfl⟩
abbrev main_v59 : Ref sig .tc := ⟨.hbm, 94, rfl⟩
abbrev main_cst_21 : Ref sig .tc := ⟨.hbm, 95, rfl⟩
abbrev main_v60 : Ref sig .tc := ⟨.hbm, 96, rfl⟩
abbrev main_v61 : Ref sig .tc := ⟨.hbm, 97, rfl⟩
abbrev main_cst_22 : Ref sig .tc := ⟨.hbm, 98, rfl⟩
abbrev main_v62 : Ref sig .tc := ⟨.hbm, 99, rfl⟩
abbrev main_v63 : Ref sig .tc := ⟨.hbm, 100, rfl⟩
abbrev main_cst_23 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_c_25 : Ref sig .tc := ⟨.hbm, 148, rfl⟩
abbrev main_v108 : Ref sig .tc := ⟨.hbm, 149, rfl⟩
abbrev main_call1_v0 : Ref sig .tc := ⟨.hbm, 150, rfl⟩
abbrev main_call1_c : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_c_0 : Ref sig .tc := ⟨.hbm, 156, rfl⟩
abbrev main_call1_v5 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_26 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_v116 : Ref sig .tc := ⟨.hbm, 169, rfl⟩
abbrev main_cst_27 : Ref sig .tc := ⟨.hbm, 170, rfl⟩
abbrev main_v117 : Ref sig .tc := ⟨.hbm, 171, rfl⟩
abbrev main_cst_28 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_29 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_call3_c : Ref sig .tc := ⟨.hbm, 188, rfl⟩
abbrev main_call3_v0 : Ref sig .tc := ⟨.hbm, 189, rfl⟩
abbrev main_call3_v1 : Ref sig .tc := ⟨.hbm, 190, rfl⟩
abbrev main_call3_c_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_c_1 : Ref sig .tc := ⟨.hbm, 196, rfl⟩
abbrev main_call3_c_2 : Ref sig .tc := ⟨.hbm, 197, rfl⟩
abbrev main_call3_v6 : Ref sig .tc := ⟨.hbm, 198, rfl⟩
abbrev main_call3_v7 : Ref sig .tc := ⟨.hbm, 199, rfl⟩
abbrev main_call3_v8 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_c_3 : Ref sig .tc := ⟨.hbm, 204, rfl⟩
abbrev main_call3_v12 : Ref sig .tc := ⟨.hbm, 205, rfl⟩
abbrev main_call3_v13 : Ref sig .tc := ⟨.hbm, 206, rfl⟩
abbrev main_call3_v14 : Ref sig .tc := ⟨.hbm, 207, rfl⟩
abbrev main_call3_cst : Ref sig .tc := ⟨.hbm, 208, rfl⟩
abbrev main_call3_v15 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩

abbrev nD : Nat := 1
abbrev τ : Topo := Topo.v7x

variable {F : FTy → Type} [FloatOps F]
-- ==== Proof.PickRows.lean ====
module

public import Idealize.ShloMosaic.Lib.Pointwise
public import Idealize.ShloMosaic.Lib.WordCmp
public import Idealize.ShloMosaic.Lib.SortPrefix

/-! The choice of the four best groups of a row, as mathematics: the stable descending sort's first positions are
    what repeated "largest entry, first lane that holds it, then struck out" finds. -/

@[expose] public section
noncomputable section
namespace Cert.Pick
open Idealize.ShloMosaic

/-- Stable descending order of a row: the `k`-th entry of the sorted row comes from this position. -/
def ord {n : ℕ} (ℓ : Fin n → EReal) : Fin n → Fin n := sortedFrom (fun k k' => decide (ℓ k' < ℓ k))

private theorem stable_tie {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem ord_surj {n : ℕ} (ℓ : Fin n → EReal) : Function.Surjective (ord ℓ) := sortedFrom_surjective _
theorem ord_inj {n : ℕ} (ℓ : Fin n → EReal) : Function.Injective (ord ℓ) := sortedFrom_injective _

/-- A later position holds a smaller entry, or an equal one further right. -/
theorem ord_lt {n : ℕ} (ℓ : Fin n → EReal) (i j : Fin n) (hij : i < j) :
    ℓ (ord ℓ j) ≤ ℓ (ord ℓ i) ∧ (ℓ (ord ℓ j) = ℓ (ord ℓ i) → ord ℓ i < ord ℓ j) := by
  classical
  have hB := StrictTotalBefore.of_key_then_position (fun a b : EReal => decide (b < a)) ℓ (by simp)
    (fun a b c h1 h2 => by simp only [decide_eq_true_eq] at *; exact h2.trans h1)
    (fun a b => by simp only [decide_eq_true_eq]; rcases lt_trichotomy a b with h | h | h <;> simp [h])
  set B := fun k k' : Fin n => decide (ℓ k' < ℓ k) || (decide (ℓ k = ℓ k') && decide (k < k')) with hBdef
  have e : ord ℓ = sortedFrom B := by
    have : sortPositions n (fun k k' => decide (ℓ k' < ℓ k)) = sortPositions n B :=
      stable_tie _ _ (fun a b hab => by simp [hBdef, not_lt.mpr hab.le]) _ (List.pairwise_lt_finRange n)
    funext k; unfold ord sortedFrom; rw [List.get_of_eq this]; rfl
  have hs := sortedFrom_noInversion B B (fun a b h => hB.asymm a b h) (fun _ _ h => h) hB.negTrans i j hij
  rw [← e] at hs
  have hne : ord ℓ i ≠ ord ℓ j := fun h => hij.ne (ord_inj ℓ h)
  simp only [hBdef, Bool.or_eq_false_iff, Bool.and_eq_false_iff, decide_eq_false_iff_not] at hs
  refine ⟨not_lt.mp hs.1, fun h => ?_⟩
  rcases hs.2 with h' | h'
  · exact absurd h h'
  · exact lt_of_le_of_ne (not_lt.mp h') hne

/-- Largest entry of a row, given where it lies. -/
theorem fold_max_at {n : ℕ} (w : Fin n → EReal) (p : Fin n) (h : ∀ x, w x ≤ w p) :
    Finset.fold max (⊥ : EReal) w Finset.univ = w p := by
  refine le_antisymm (Finset.fold_max_le _ |>.mpr ⟨bot_le, fun x _ => h x⟩) (Finset.le_fold_max _ |>.mpr (Or.inr ⟨p, Finset.mem_univ _, le_refl _⟩))

theorem minsi_nat (a b : ℕ) (ha : a < 2 ^ 31) (hb : b < 2 ^ 31) :
    IntOp.minsi (BitVec.ofNat 32 a) (BitVec.ofNat 32 b) = BitVec.ofNat 32 (min a b) := by
  have e1 : (BitVec.ofNat 32 a).toInt = a := by
    rw [BitVec.toInt_eq_toNat_cond, BitVec.toNat_ofNat, Nat.mod_eq_of_lt (by omega)]; simp; omega
  have e2 : (BitVec.ofNat 32 b).toInt = b := by
    rw [BitVec.toInt_eq_toNat_cond, BitVec.toNat_ofNat, Nat.mod_eq_of_lt (by omega)]; simp; omega
  unfold IntOp.minsi
  simp only [BitVec.slt_eq_decide, e1, e2]
  rcases lt_or_ge a b with h | h
  · rw [min_eq_left h.le]; simp [h]
  · rw [min_eq_right h]; simp [not_lt.mpr h]

/-- The signed minimum over lanes of words that are small naturals. -/
theorem fold_minsi_nat {n : ℕ} (f : Fin n → ℕ) (s : Finset (Fin n)) (hf : ∀ x, f x < 2 ^ 31) :
    Finset.fold IntOp.minsi 2147483647#32 (fun x => BitVec.ofNat 32 (f x)) s
      = BitVec.ofNat 32 (Finset.fold min 2147483647 f s) ∧ Finset.fold min 2147483647 f s < 2 ^ 31 := by
  classical
  induction s using Finset.induction_on with
  | empty => exact ⟨rfl, by norm_num⟩
  | insert a s ha ih =>
    rw [Finset.fold_insert ha, Finset.fold_insert ha, ih.1]
    exact ⟨minsi_nat _ _ (hf a) ih.2, lt_of_le_of_lt (min_le_right _ _) ih.2⟩

/-- The first lane that holds the largest entry. -/
theorem first_lane (w : Fin 128 → EReal) (p : Fin 128) (m : EReal) (hm : m = w p) (h : ∀ x, w x = w p → p ≤ x) :
    Finset.fold IntOp.minsi 2147483647#32 (fun x : Fin 128 => if w x = m then BitVec.ofNat 32 x.val else 128#32) Finset.univ
      = BitVec.ofNat 32 p.val := by
  subst hm
  have e : (fun x : Fin 128 => if w x = w p then BitVec.ofNat 32 x.val else 128#32)
      = fun x : Fin 128 => BitVec.ofNat 32 (if w x = w p then x.val else 128) := by
    funext x; split <;> rfl
  rw [e, (fold_minsi_nat _ _ (fun x => by split <;> omega)).1]
  congr 1
  refine le_antisymm (Finset.fold_min_le _ |>.mpr (Or.inr ⟨p, Finset.mem_univ _, by simp⟩)) (Finset.le_fold_min _ |>.mpr ⟨by omega, fun x _ => ?_⟩)
  split
  · rename_i hx; exact h x hx
  · omega

/-- The row with the first `a` picks (and the lanes past the groups) struck out. -/
def row (ℓ : Fin 6 → EReal) (a : ℕ) (x : Fin 128) : EReal :=
  if h : x.val < 6 then (if ∃ i : Fin 6, i.val < a ∧ ord ℓ i = ⟨x.val, h⟩ then ⊥ else ℓ ⟨x.val, h⟩) else ⊥

/-- The lane of a group. -/
def lane (g : Fin 6) : Fin 128 := ⟨g.val, by omega⟩

theorem row_lane (ℓ : Fin 6 → EReal) (a : Fin 6) : row ℓ a.val (lane (ord ℓ a)) = ℓ (ord ℓ a) := by
  unfold row lane
  rw [dif_pos (ord ℓ a).isLt, if_neg]
  rintro ⟨i, hi, e⟩
  exact absurd (ord_inj ℓ e) (fun h => by subst h; omega)

/-- Every entry of the working row is the pick's or less, and equality comes no further left. -/
theorem row_best (ℓ : Fin 6 → EReal) (hℓ : ∀ g, ℓ g ≠ ⊥) (a : Fin 6) (x : Fin 128) :
    row ℓ a.val x ≤ ℓ (ord ℓ a) ∧ (row ℓ a.val x = ℓ (ord ℓ a) → lane (ord ℓ a) ≤ x) := by
  unfold row
  split
  · rename_i h
    split
    · exact ⟨bot_le, fun e => absurd e.symm (hℓ _)⟩
    · rename_i hn
      obtain ⟨j, hj⟩ := ord_surj ℓ ⟨x.val, h⟩
      have hja : a ≤ j := by
        by_contra hlt
        exact hn ⟨j, by simpa using hlt, hj⟩
      rcases eq_or_lt_of_le hja with e | hlt
      · subst e
        rw [hj]
        exact ⟨le_refl _, fun _ => le_of_eq (Fin.ext (by unfold lane; rfl))⟩
      · have := ord_lt ℓ a j hlt
        rw [hj] at this
        exact ⟨this.1, fun e => Fin.le_def.mpr (show (ord ℓ a).val ≤ x.val from (Fin.lt_def.mp (this.2 e)).le)⟩
  · exact ⟨bot_le, fun e => absurd e.symm (hℓ _)⟩

theorem row_max (ℓ : Fin 6 → EReal) (hℓ : ∀ g, ℓ g ≠ ⊥) (a : Fin 6) :
    Finset.fold max (⊥ : EReal) (row ℓ a.val) Finset.univ = ℓ (ord ℓ a) := by
  rw [fold_max_at _ (lane (ord ℓ a)) (fun x => by rw [row_lane]; exact (row_best ℓ hℓ a x).1), row_lane]

theorem row_first (ℓ : Fin 6 → EReal) (hℓ : ∀ g, ℓ g ≠ ⊥) (a : Fin 6) :
    Finset.fold IntOp.minsi 2147483647#32
      (fun x : Fin 128 => if row ℓ a.val x = ℓ (ord ℓ a) then BitVec.ofNat 32 x.val else 128#32) Finset.univ
      = BitVec.ofNat 32 (ord ℓ a).val :=
  first_lane _ (lane (ord ℓ a)) _ (row_lane ℓ a).symm (fun x hx => (row_best ℓ hℓ a x).2 (hx.trans (row_lane ℓ a)))

/-- Striking out the pick gives the next working row. -/
theorem row_step (ℓ : Fin 6 → EReal) (a : Fin 6) (x : Fin 128) :
    Scalar.select (IntOp.cmpi .eq (BitVec.ofNat 32 x.val) (BitVec.ofNat 32 (ord ℓ a).val)) ⊥ (row ℓ a.val x)
      = row ℓ (a.val + 1) x := by
  have hx : BitVec.ofNat 32 x.val = BitVec.ofNat 32 (ord ℓ a).val ↔ x.val = (ord ℓ a).val := by
    constructor
    · intro h
      have := congrArg BitVec.toNat h
      simp only [BitVec.toNat_ofNat] at this
      omega
    · intro h; rw [h]
  unfold row
  by_cases h6 : x.val < 6
  · simp only [dif_pos h6]
    by_cases hq : x.val = (ord ℓ a).val
    · have e : IntOp.cmpi .eq (BitVec.ofNat 32 x.val) (BitVec.ofNat 32 (ord ℓ a).val) = 1#1 := by
        rw [hq]; simp [IntOp.cmpi]
      rw [e, if_pos (⟨a, by omega, Fin.ext hq.symm⟩ : ∃ i : Fin 6, i.val < a.val + 1 ∧ ord ℓ i = ⟨x.val, h6⟩)]
      rfl
    · have e : IntOp.cmpi .eq (BitVec.ofNat 32 x.val) (BitVec.ofNat 32 (ord ℓ a).val) = 0#1 := by
        unfold IntOp.cmpi; rw [beq_eq_false_iff_ne.mpr (fun h => hq (hx.mp h))]; rfl
      rw [e]
      have : (∃ i : Fin 6, i.val < a.val ∧ ord ℓ i = ⟨x.val, h6⟩) ↔ (∃ i : Fin 6, i.val < a.val + 1 ∧ ord ℓ i = ⟨x.val, h6⟩) := by
        refine ⟨fun ⟨i, h1, h2⟩ => ⟨i, by omega, h2⟩, fun ⟨i, h1, h2⟩ => ⟨i, ?_, h2⟩⟩
        have : i ≠ a := fun hia => hq (by rw [← hia, h2])
        have : i.val ≠ a.val := fun h => this (Fin.ext h)
        omega
      rw [← (if_congr this rfl rfl)]
      rfl
  · simp only [dif_neg h6]
    unfold Scalar.select; split <;> rfl

theorem row_zero (ℓ : Fin 6 → EReal) (x : Fin 128) : row ℓ 0 x = if h : x.val < 6 then ℓ ⟨x.val, h⟩ else ⊥ := by
  unfold row; simp

end Cert.Pick
end
-- ==== Proof.Formula.lean ====
module

public import proofs.«01_k».proof.Proof.PickRows

/-! The layer's mathematics over the extended reals, away from both programs: the attention of one row, its rotary
    queries and keys, and the facts that let masked keys be left out. -/

@[expose] public section
set_option maxRecDepth 16384
noncomputable section
namespace Cert.Form
open Idealize.ShloMosaic

theorem neg_inf : Ideal.ofBits FTy.f32 0xFF800000#32 = ⊥ := by simp [Ideal.ofBits, Ideal.ieee]

/-- The scores' scale. -/
def scale : EReal := Ideal.ofBits FTy.f32 1035273459#32

/-- The largest of finitely many entries. -/
def top {n : ℕ} (s : Fin n → EReal) : EReal := Finset.fold max ⊥ s Finset.univ

/-- One row's attention: the values averaged by the scores' exponentials. -/
def attn {n : ℕ} (s v : Fin n → EReal) : EReal :=
  Ideal.div (∑ t, Ideal.exp (s t - top s) * v t) (∑ t, Ideal.exp (s t - top s))

/-- A score where the key is allowed, minus infinity where not. -/
def masked (p : Prop) [Decidable p] (x : EReal) : EReal := if p then x else ⊥

/-- One row of a segment of the attention: keys up to the row's own position, each with its bias. -/
def segRow (n : ℕ) (p : ℕ) (q : Fin 128 → EReal) (k v : Fin n → Fin 128 → EReal) (b : Fin n → EReal) (d : Fin 128) : EReal :=
  attn (fun t : Fin n => masked (t.val ≤ p) ((∑ d : Fin 128, q d * k t d) * scale + b t)) (fun t => v t d)

theorem segRow_congr {n p p' : ℕ} {q q' : Fin 128 → EReal} {k k' v v' : Fin n → Fin 128 → EReal} {b b' : Fin n → EReal}
    {d d' : Fin 128} (hp : p = p') (hq : q = q') (hk : k = k') (hv : v = v') (hb : b = b') (hd : d = d') :
    segRow n p q k v b d = segRow n p' q' k' v' b' d' := by
  subst hp hq hk hv hb hd; rfl

/-- A signed comparison of words that are small naturals. -/
theorem sle_nat (a b : ℕ) (ha : a < 2 ^ 31) (hb : b < 2 ^ 31) :
    IntOp.cmpi CmpIPredicate.sle (BitVec.ofNat 32 a) (BitVec.ofNat 32 b) = if a ≤ b then 1#1 else 0#1 := by
  have e1 : (BitVec.ofNat 32 a).toInt = a := by
    rw [BitVec.toInt_eq_toNat_cond, BitVec.toNat_ofNat, Nat.mod_eq_of_lt (by omega)]; simp; omega
  have e2 : (BitVec.ofNat 32 b).toInt = b := by
    rw [BitVec.toInt_eq_toNat_cond, BitVec.toNat_ofNat, Nat.mod_eq_of_lt (by omega)]; simp; omega
  unfold IntOp.cmpi
  simp only [BitVec.sle_eq_decide, e1, e2]
  by_cases h : a ≤ b <;> simp [h]

/-- The causal comparison of the body: the word of a key's position against the word of the row's. -/
theorem causal_word (a r i q : ℕ) (ha : a < 2048) (hr : r < 256) (hi : i < 2) (hq : q < 8) (x : EReal) :
    Scalar.select (IntOp.cmpi CmpIPredicate.sle (BitVec.ofNat 32 a)
      (IntOp.addi (BitVec.ofNat 32 r) (Scalar.muli (Scalar.addi (BitVec.ofNat 32 q) (BitVec.ofNat 32 i)) 256#32))) x ⊥
      = masked (a ≤ (q + i) * 256 + r) x := by
  have e : IntOp.addi (BitVec.ofNat 32 r) (Scalar.muli (Scalar.addi (BitVec.ofNat 32 q) (BitVec.ofNat 32 i)) 256#32)
      = BitVec.ofNat 32 ((q + i) * 256 + r) := by
    apply BitVec.eq_of_toNat_eq
    simp only [IntOp.addi, Scalar.muli, Scalar.addi, IntOp.muli, BitVec.toNat_add, BitVec.toNat_mul, BitVec.toNat_ofNat]
    omega
  rw [e, sle_nat _ _ (by omega) (by omega)]
  unfold masked Scalar.select
  by_cases h : a ≤ (q + i) * 256 + r <;> simp [h]

end Cert.Form
end
-- ==== Proof.Rows.lean ====
module

public import proofs.«01_k».proof.Proof.Formula

/-! A head row turned by its position, and the group outputs mixed by a selection, as plain formulas. -/

@[expose] public section
set_option maxRecDepth 16384
noncomputable section
namespace Cert.Form
open Idealize.ShloMosaic

open Cert.Pick

theorem ord_best (ℓ : Fin 6 → EReal) (g : Fin 6) : ℓ g ≤ ℓ (ord ℓ 0) := by
  obtain ⟨i, rfl⟩ := ord_surj ℓ g
  by_cases h : i = 0
  · rw [h]
  · exact (ord_lt ℓ 0 i (Fin.pos_iff_ne_zero.mpr h)).1

/-- The largest entry of a row is the first of its order. -/
theorem top_ord (ℓ : Fin 6 → EReal) : top ℓ = ℓ (ord ℓ 0) := fold_max_at ℓ (ord ℓ 0) (ord_best ℓ)

theorem top_four (ℓ : Fin 6 → EReal) : top (fun a : Fin 4 => ℓ (ord ℓ ⟨a.val, by omega⟩)) = ℓ (ord ℓ 0) :=
  fold_max_at (fun a : Fin 4 => ℓ (ord ℓ ⟨a.val, by omega⟩)) 0 (fun x => ord_best ℓ _)

theorem eq_word (a b : ℕ) (ha : a < 128) (hb : b < 128) :
    IntOp.cmpi .eq (BitVec.ofNat 32 a) (BitVec.ofNat 32 b) = if b = a then 1#1 else 0#1 := by
  by_cases h : b = a
  · subst h; rw [if_pos rfl]; simp [IntOp.cmpi]
  · rw [if_neg h]
    unfold IntOp.cmpi
    have : BitVec.ofNat 32 a ≠ BitVec.ofNat 32 b := fun e => h (by
      have := congrArg BitVec.toNat e
      rw [BitVec.toNat_ofNat, BitVec.toNat_ofNat, Nat.mod_eq_of_lt (by omega), Nat.mod_eq_of_lt (by omega)] at this
      exact this.symm)
    rw [beq_eq_false_iff_ne.mpr this]; rfl

/-- Weight of the `a`-th chosen group: softmax over the four best logits. -/
def wt (ℓ : Fin 6 → EReal) (a : Fin 6) : EReal :=
  Ideal.div (Ideal.exp (ℓ (ord ℓ a) - ℓ (ord ℓ 0)))
    (Ideal.exp (ℓ (ord ℓ 0) - ℓ (ord ℓ 0)) + Ideal.exp (ℓ (ord ℓ 1) - ℓ (ord ℓ 0)) + Ideal.exp (ℓ (ord ℓ 2) - ℓ (ord ℓ 0)) + Ideal.exp (ℓ (ord ℓ 3) - ℓ (ord ℓ 0)))

/-- A group is one of the four chosen. -/
def chosen (ℓ : Fin 6 → EReal) (g : ℕ) : Prop := (ord ℓ 0).val = g ∨ (ord ℓ 1).val = g ∨ (ord ℓ 2).val = g ∨ (ord ℓ 3).val = g

instance (ℓ : Fin 6 → EReal) (g : ℕ) : Decidable (chosen ℓ g) := by unfold chosen; infer_instance

/-- A routing probability laid out over the lanes. -/
def softLane (ℓ : Fin 6 → EReal) (x : Fin 128) : EReal :=
  if h : x.val < 6 then Ideal.div (Ideal.exp (ℓ ⟨x.val, h⟩ - ℓ (ord ℓ 0))) (∑ g' : Fin 6, Ideal.exp (ℓ g' - ℓ (ord ℓ 0)))
  else Ideal.div 0 (∑ g' : Fin 6, Ideal.exp (ℓ g' - ℓ (ord ℓ 0)))

/-- The `a`-th entry of a row of four, and a filler after them. -/
def four {α : Type} (w : Fin 6 → α) (d : α) (x : ℕ) : α :=
  if x = 3 then w 3 else if x = 2 then w 2 else if x = 1 then w 1 else if x = 0 then w 0 else d

/-- Routing probability of a group. -/
def soft (ℓ : Fin 6 → EReal) (g : Fin 6) : EReal :=
  Ideal.div (Ideal.exp (ℓ g - ℓ (ord ℓ 0))) (∑ g' : Fin 6, Ideal.exp (ℓ g' - ℓ (ord ℓ 0)))

theorem sum_lanes (f : Fin 6 → EReal) : (∑ x : Fin 128, if h : x.val < 6 then f ⟨x.val, h⟩ else 0) = ∑ g : Fin 6, f g := by
  rw [Fin.sum_univ_add (a := 6) (b := 122)]
  simp

/-- Sum of a probability row times the logarithm of its shifted entries. -/
def ent (ℓ : Fin 6 → EReal) : EReal := ∑ g : Fin 6, soft ℓ g * Ideal.log (soft ℓ g + Ideal.ofBits .f32 841731191#32)

/-- Entry `(s, k)` of the product of the inputs with a weight matrix. -/
def proj {n : ℕ} (X : FVec Ideal ⟨2, ![2048, 1024]⟩ .f32) (W : FVec Ideal ⟨2, ![1024, n]⟩ .f32) (s : Fin 2048) (k : Fin n) : EReal :=
  ∑ e : Fin 1024, X (ix2 s e) * W (ix2 e k)

/-- One entry of a head row turned by its position: `h d · c d` plus the half-turned row times `s d`. -/
def ropeAt (h c s : Fin 128 → EReal) (d : Fin 128) : EReal :=
  h d * c d + (if hd : d.val < 64 then 0 - h ⟨64 + d.val, by omega⟩ else h ⟨d.val - 64, by omega⟩) * s d

/-- `v` where the word `w` is the number `m`, zero elsewhere. -/
def hit (w : BitVec 32) (m : ℕ) (v : EReal) : EReal := Scalar.select (IntOp.cmpi .eq w (BitVec.ofNat 32 m)) v 0

/-- The output of the group the word `w` names, as the sum over the six groups that picks it. -/
def mixRow (w : BitVec 32) (o : Fin 6 → EReal) : EReal :=
  hit w 0 (o 0) + hit w 1 (o 1) + hit w 2 (o 2) + hit w 3 (o 3) + hit w 4 (o 4) + hit w 5 (o 5)

theorem mixRow_congr {w w' : BitVec 32} {o o' : Fin 6 → EReal} (e : w = w') (e' : o = o') : mixRow w o = mixRow w' o' := by
  subst e e'; rfl

theorem ropeAt_congr {h h' c c' s s' : Fin 128 → EReal} {d d' : Fin 128} (e0 : h = h') (e1 : c = c') (e2 : s = s') (e3 : d = d') : ropeAt h c s d = ropeAt h' c' s' d' := by
  subst e0 e1 e2 e3; rfl

end Cert.Form
end
-- ==== Proof.Laws.lean ====
module

public import proofs.«01_k».proof.Proof.Rows

/-! Laws the two programs' attention rows, selections and routing losses meet under. -/

@[expose] public section
set_option maxRecDepth 16384
noncomputable section
namespace Cert.Form
open Idealize.ShloMosaic

/-- An extended real that is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem isReal_zero : IsReal 0 := ⟨0, rfl⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

theorem IsReal.ne_top {x : EReal} (h : IsReal x) : x ≠ ⊤ := by obtain ⟨r, rfl⟩ := h; exact EReal.coe_ne_top r

theorem IsReal.ne_bot {x : EReal} (h : IsReal x) : x ≠ ⊥ := by obtain ⟨r, rfl⟩ := h; exact EReal.coe_ne_bot r

theorem isReal_of {x : EReal} (h : x ≠ ⊤) (h' : x ≠ ⊥) : IsReal x := ⟨x.toReal, (EReal.coe_toReal h h').symm⟩

theorem IsReal.rope {h c s : Fin 128 → EReal} (hh : ∀ d, IsReal (h d)) (hc : ∀ d, IsReal (c d)) (hs : ∀ d, IsReal (s d)) (d : Fin 128) : IsReal (ropeAt h c s d) := by
  unfold ropeAt
  refine ((hh d).mul (hc d)).add (IsReal.mul ?_ (hs d))
  split
  · exact isReal_zero.sub (hh _)
  · exact hh _

theorem exp_nonneg (x : EReal) : 0 ≤ Ideal.exp x := by
  induction x using EReal.rec with
  | bot => exact le_refl _
  | top => exact le_top
  | coe r => exact EReal.coe_nonneg.mpr (Real.exp_pos r).le

theorem exp_ne_zero {x : EReal} (h : x ≠ ⊥) : Ideal.exp x ≠ 0 := by
  induction x using EReal.rec with
  | bot => exact absurd rfl h
  | top => exact EReal.top_ne_zero
  | coe r =>
    show ((Real.exp r : ℝ) : EReal) ≠ 0
    exact fun e => (Real.exp_pos r).ne' (EReal.coe_eq_zero.mp e)

/-- A sum whose entries past `n` vanish is the sum of the first `n`. -/
theorem sum_first {n N : ℕ} (hn : n ≤ N) (f : Fin N → EReal) (h : ∀ t : Fin N, n ≤ t.val → f t = 0) :
    ∑ t, f t = ∑ t : Fin n, f ⟨t.val, by omega⟩ := by
  obtain ⟨m, rfl⟩ := Nat.exists_eq_add_of_le hn
  rw [Fin.sum_univ_add]
  rw [Finset.sum_eq_zero (s := Finset.univ) (f := fun i : Fin m => f (Fin.natAdd n i)) fun i _ => h _ (by simp)]
  rw [add_zero]; rfl

theorem top_eq_sup {n : ℕ} (s : Fin n → EReal) : top s = Finset.univ.sup s := rfl

theorem le_top_row {n : ℕ} (s : Fin n → EReal) (t : Fin n) : s t ≤ top s := by
  rw [top_eq_sup]; exact Finset.le_sup (Finset.mem_univ t)

theorem top_ne_top {n : ℕ} (s : Fin n → EReal) (h : ∀ t, s t ≠ ⊤) : top s ≠ ⊤ := by
  rw [top_eq_sup]
  exact ne_of_lt ((Finset.sup_lt_iff bot_lt_top).mpr fun t _ => lt_top_iff_ne_top.mpr (h t))

/-- A row's maximum is that of its first `n` entries where the rest are `⊥`. -/
theorem top_first {n N : ℕ} (hn : n ≤ N) (s : Fin N → EReal) (h : ∀ t : Fin N, n ≤ t.val → s t = ⊥) :
    top s = top (fun t : Fin n => s ⟨t.val, by omega⟩) := by
  apply le_antisymm
  · rw [top_eq_sup]
    refine Finset.sup_le fun t _ => ?_
    by_cases ht : t.val < n
    · exact le_top_row (fun t : Fin n => s ⟨t.val, by omega⟩) ⟨t.val, ht⟩
    · rw [h t (by omega)]; exact bot_le
  · rw [top_eq_sup (fun t : Fin n => s ⟨t.val, by omega⟩)]
    exact Finset.sup_le fun t _ => le_top_row s ⟨t.val, by omega⟩

theorem sum_mul_right {n : ℕ} (f : Fin n → EReal) (c : EReal) (h : 0 ≤ c) (h' : c ≠ ⊤) : (∑ t, f t) * c = ∑ t, f t * c := by
  have : ∀ s : Finset (Fin n), (∑ t ∈ s, f t) * c = ∑ t ∈ s, f t * c := by
    intro s
    induction s using Finset.induction_on with
    | empty => simp
    | insert a s ha ih => rw [Finset.sum_insert ha, Finset.sum_insert ha, ← ih, EReal.right_distrib_of_nonneg_of_ne_top h h']
  exact this Finset.univ

theorem inv_ne_top' (x : EReal) : x⁻¹ ≠ ⊤ := by
  induction x using EReal.rec with
  | bot => simp
  | top => simp
  | coe r => rw [← EReal.coe_inv]; exact EReal.coe_ne_top _

/-- Softmax-weighted mean of the values, each weight divided first. -/
def meanRow {n : ℕ} (s v : Fin n → EReal) : EReal :=
  ∑ t, v t * Ideal.div (Ideal.exp (s t - top s)) (∑ t', Ideal.exp (s t' - top s))

/-- The mean over all keys is the attention row over the first `n`, where the later keys are masked and one key is not. -/
theorem meanRow_eq {n N : ℕ} (hn : n ≤ N) (s v : Fin N → EReal) (htop : ∀ t, s t ≠ ⊤) (hbot : ∀ t : Fin N, n ≤ t.val → s t = ⊥)
    (t0 : Fin N) (h0 : s t0 ≠ ⊥) :
    meanRow s v = attn (fun t : Fin n => s ⟨t.val, by omega⟩) (fun t : Fin n => v ⟨t.val, by omega⟩) := by
  unfold meanRow attn
  rw [← top_first hn s hbot]
  have hM := top_ne_top s htop
  generalize top s = M at hM
  have hz : ∀ t : Fin N, n ≤ t.val → Ideal.exp (s t - M) = 0 := by
    intro t ht; rw [hbot t ht]
    have : (⊥ : EReal) - M = ⊥ := EReal.bot_sub M
    rw [this]; rfl
  have hD : (∑ t', Ideal.exp (s t' - M)) ≠ 0 := by
    intro e
    have := (Finset.sum_eq_zero_iff_of_nonneg (fun t _ => exp_nonneg (s t - M))).mp e t0 (Finset.mem_univ t0)
    refine exp_ne_zero ?_ this
    induction M using EReal.rec with
    | bot => rw [EReal.sub_bot h0]; exact top_ne_bot
    | top => exact absurd rfl hM
    | coe r =>
      obtain ⟨q, hq⟩ := isReal_of (htop t0) h0
      rw [hq, ← EReal.coe_sub]; exact EReal.coe_ne_bot _
  have hD0 : 0 ≤ (∑ t', Ideal.exp (s t' - M)) := Finset.sum_nonneg fun t _ => exp_nonneg _
  rw [sum_first hn (fun t' => Ideal.exp (s t' - M)) hz] at hD hD0 ⊢
  rw [sum_first hn (fun t => v t * Ideal.div (Ideal.exp (s t - M)) (∑ t : Fin n, Ideal.exp (s ⟨t.val, by omega⟩ - M)))]
  · generalize (∑ t : Fin n, Ideal.exp (s ⟨t.val, by omega⟩ - M)) = D at hD hD0
    unfold Ideal.div
    simp only [if_neg hD]
    rw [sum_mul_right _ _ (EReal.inv_nonneg_of_nonneg hD0) (inv_ne_top' D)]
    refine Finset.sum_congr rfl fun t _ => ?_
    rw [← mul_assoc, mul_comm (v _)]
  · intro t ht
    rw [hz t ht]
    unfold Ideal.div
    rw [if_neg hD, zero_mul, mul_zero]

theorem masked_add (p q : Prop) [Decidable p] [Decidable q] (x : EReal) : masked p (x + masked q 0) = masked (p ∧ q) x := by
  unfold masked
  by_cases hp : p <;> by_cases hq : q <;> simp [hp, hq]

/-- Where the later keys lie behind position `p`, the reference's row is the kernel's row. -/
theorem meanRow_segRow {n N p : ℕ} (hn : n ≤ N) (hp : p < n) (q : Fin 128 → EReal) (k v : Fin N → Fin 128 → EReal) (c : Fin N → Prop) [∀ t, Decidable (c t)] (d : Fin 128)
    (hq : ∀ d, IsReal (q d)) (hk : ∀ t d, IsReal (k t d)) (hs : IsReal scale) (hc : c ⟨p, by omega⟩) :
    meanRow (fun t : Fin N => masked (t.val ≤ p ∧ c t) ((∑ d, k t d * q d) * scale)) (fun t => v t d)
      = segRow n p q (fun t => k ⟨t.val, by omega⟩) (fun t => v ⟨t.val, by omega⟩) (fun t => masked (c ⟨t.val, by omega⟩) 0) d := by
  have hr : ∀ t, IsReal ((∑ d, k t d * q d) * scale) := fun t => (IsReal.sum fun d => (hk t d).mul (hq d)).mul hs
  refine (meanRow_eq hn _ _ ?_ ?_ ⟨p, by omega⟩ ?_).trans ?_
  · intro t
    show masked _ _ ≠ ⊤
    unfold masked
    split
    · exact (hr t).ne_top
    · exact bot_ne_top
  · intro t ht
    exact if_neg (by omega)
  · show masked _ _ ≠ ⊥
    unfold masked
    rw [if_pos ⟨le_refl _, hc⟩]
    exact (hr _).ne_bot
  · unfold segRow
    refine congrArg (fun s => attn s _) (funext fun t => ?_)
    rw [masked_add]
    simp only [mul_comm]

theorem scale_real : IsReal scale := by
  unfold scale
  refine isReal_of ?_ ?_ <;> simp [Ideal.ofBits, Ideal.ieee, -EReal.coe_mul] <;> norm_num

theorem hit_nat (i j : ℕ) (hi : i < 128) (hj : j < 128) (v : EReal) : hit (BitVec.ofNat 32 i) j v = if j = i then v else 0 := by
  unfold hit
  rw [eq_word i j hi hj]
  by_cases h : j = i <;> simp [h, Scalar.select]

/-- Picking by a group's number gives that group's entry. -/
theorem mixRow_nat (g : Fin 6) (o : Fin 6 → EReal) : mixRow (BitVec.ofNat 32 g.val) o = o g := by
  unfold mixRow
  rw [hit_nat _ _ (by omega) (by omega), hit_nat _ _ (by omega) (by omega), hit_nat _ _ (by omega) (by omega), hit_nat _ _ (by omega) (by omega), hit_nat _ _ (by omega) (by omega), hit_nat _ _ (by omega) (by omega)]
  fin_cases g <;> simp

end Cert.Form
end
-- ==== Proof.Finite.lean ====
module

public import proofs.«01_k».proof.Pre_scores_finite
public import proofs.«01_k».proof.Proof.Laws
public import Idealize.ShloMosaic.Lib.Pointwise.Reduce

/-! What the condition on the scores says entry by entry: the inputs and three of the weight matrices hold real numbers. -/

@[expose] public section
set_option maxRecDepth 16384
noncomputable section
namespace Cert.Pre_scores_finite.Gen
open Idealize.ShloMosaic Cert.Form

instance facts : Cert.Pre_scores_finite.Facts where
  bcast_S_S1x2048x1024 := by decide
  reducesTo_S1x2048x1024_S_d0_1_2 := by decide
  h_S_ := by decide
  bcast_S_S1024x6 := by decide
  reducesTo_S1024x6_S_d0_1 := by decide
  bcast_S_S1024x1536 := by decide
  reducesTo_S1024x1536_S_d0_1 := by decide
  bcast_S_S1024x768 := by decide
  reducesTo_S1024x768_S_d0_1 := by decide

theorem andi_one {x y : BitVec 1} (h : IntOp.andi x y = 1#1) : x = 1#1 ∧ y = 1#1 := by
  revert x y; decide

theorem fold_one {ι : Type} [DecidableEq ι] (S : Finset ι) (x : ι → BitVec 1) (b : BitVec 1) (h : S.fold IntOp.andi b x = 1#1) : ∀ i ∈ S, x i = 1#1 := by
  induction S using Finset.induction_on with
  | empty => intro i hi; simp at hi
  | insert a s ha ih =>
    rw [Finset.fold_insert ha] at h
    obtain ⟨h1, h2⟩ := andi_one h
    intro i hi
    rcases Finset.mem_insert.mp hi with rfl | hi
    · exact h1
    · exact ih h2 i hi

theorem reduce_one {s : Shape} {axes : List (Fin s.rank)} (x : IVec s 1) (init : IVec S_ 1) (h : s.ReducesTo axes S_) (hu : 0 < S_.numel) (j : S_.Idx)
    (e : Host.reduce IntOp.andi x init h hu j = 1#1) (i : s.Idx) : x i = 1#1 := by
  rw [Host.reduce_eq_fold] at e
  exact fold_one _ x _ e i (Finset.mem_filter.mpr ⟨Finset.mem_univ i, funext fun a => a.elim0⟩)

theorem real_of_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | bot => exact absurd h (by simp [Ideal.cmp])
  | top => exact absurd h (by simp [Ideal.cmp])
  | coe r => exact ⟨r, rfl⟩

theorem entry_real {s : Shape} (A : FVec Ideal s .f32) (hb : S_.BroadcastsInDim s (![] : Fin 0 → Fin s.rank)) (i : s.Idx)
    (h : cmpf .olt (Host.absf A) (broadcastInDim s ![] hb (constant (F := Ideal) S_ .f32 0x7F800000#32)) i = 1#1) : IsReal (A i) :=
  real_of_lt h

theorem reals (a0 : FVec Ideal S1x2048x1024 .f32) (a1 : FVec Ideal S1024x1536 .f32) (a2 a3 : FVec Ideal S1024x768 .f32) (a4 : FVec Ideal S1024x6 .f32) (a5 : FVec Ideal S1024x1024 .f32)
    (h : fn a0 a1 a2 a3 a4 a5 = fun _ => 1#1) :
    (∀ i, IsReal (a0 i)) ∧ (∀ i, IsReal (a1 i)) ∧ (∀ i, IsReal (a2 i)) ∧ (∀ i, IsReal (a4 i)) := by
  have h := congrFun h (fun a => a.elim0)
  obtain ⟨h, h2⟩ := andi_one h
  obtain ⟨h, h1⟩ := andi_one h
  obtain ⟨h0, h4⟩ := andi_one h
  exact ⟨fun i => entry_real _ _ i (reduce_one _ _ _ _ _ h0 i), fun i => entry_real _ _ i (reduce_one _ _ _ _ _ h1 i),
    fun i => entry_real _ _ i (reduce_one _ _ _ _ _ h2 i), fun i => entry_real _ _ i (reduce_one _ _ _ _ _ h4 i)⟩

end Cert.Pre_scores_finite.Gen
end
-- ==== Proof.RouteRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

abbrev VO0_2 : View sig .tc .vmem S256x128 .i32 := (Memref.whole cc0_stg2_0 : Memref sig .tc .vmem S256x128 .i32).view
abbrev VO0_3 : View sig .tc .vmem S256x128 .f32 := (Memref.whole cc0_stg3_0 : Memref sig .tc .vmem S256x128 .f32).view
abbrev VO0_4 : View sig .tc .vmem S256x8 .f32 := (Memref.whole cc0_stg4_0 : Memref sig .tc .vmem S256x8 .f32).view
abbrev VO0_5 : View sig .tc .vmem S1x1 .f32 := (Memref.whole cc0_stg5_0 : Memref sig .tc .vmem S1x1 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev scM0_0 : Memref sig .tc .vmem S1x128 .f32 := Memref.whole cc0_scratch0
abbrev scM0_1 : Memref sig .tc .vmem S1x128 .f32 := Memref.whole cc0_scratch1
abbrev scM0_2 : Memref sig .tc .vmem S1x128 .f32 := Memref.whole cc0_scratch2
abbrev VS0_0 : View sig .tc .vmem S1x128 .f32 := scM0_0.view
abbrev VS0_1 : View sig .tc .vmem S1x128 .f32 := scM0_1.view
abbrev VS0_2 : View sig .tc .vmem S1x128 .f32 := scM0_2.view

theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ Pipeline.scopedRestBut spec0 c [cc0_scratch0, cc0_scratch1, cc0_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc, assoc]

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Pipeline.scopedRestBut spec0 c [cc0_scratch0, cc0_scratch1, cc0_scratch2]) ∗ (∃ r, prngReg c r)) := by
  unfold Pipeline.ΦA; rw [scopedRest0_flat]; simp only [scM0_0, scM0_1, scM0_2, owns_whole]; try rfl

set_option maxHeartbeats 1000000 in
noncomputable def kernelRun0_A (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S256x128 .i32) (harg3 : arg3.IsWhole) (arg4 : Memref sig .tc .vmem S256x128 .f32) (harg4 : arg4.IsWhole) (arg5 : Memref sig .tc .vmem S256x8 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S256x1024 .f32) (x1 : Vec F S1024x128 .f32) :
    Σ' (L2 : List (View.Piece (Elt F) S256x128 .i32)), Σ' (L3 : List (View.Piece (Elt F) S256x128 .f32)), Σ' (L4 : List (View.Piece (Elt F) S256x8 .f32)), Σ' (L5 : List (View.Piece (Elt F) S1x1 .f32)), Σ' (LS0 : List (View.Piece (Elt F) S1x128 .f32)), Σ' (LS1 : List (View.Piece (Elt F) S1x128 .f32)), { LS2 : List (View.Piece (Elt F) S1x128 .f32) //
      ∀ (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__route_body i arg1 harg1 arg2 harg2 arg3 harg3 arg4 harg4 arg5 harg5 arg6 harg6 arg7 harg7 arg8 harg8 arg9 harg9) K } := by
  refine ⟨?_, ?_, ?_, [], ?_, ?_, ?_, fun xi5 E K => ?run⟩
  case run =>
    simp only [cc0__route_body_eq_skeleton]; unfold cc0__route_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg6.read_unread _
      iexact H5
    isplitl [HS0]; · iexists _; iexact HS0
    isplitl [HS1]; · iexists _; iexact HS1
    iexists _; iexact HS2

set_option maxHeartbeats 1200000 in
noncomputable def kernelRun0_B (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S256x128 .i32) (harg3 : arg3.IsWhole) (arg4 : Memref sig .tc .vmem S256x128 .f32) (harg4 : arg4.IsWhole) (arg5 : Memref sig .tc .vmem S256x8 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) :
    Σ' (L2 : List (View.Piece (Elt F) S256x128 .i32)), Σ' (L3 : List (View.Piece (Elt F) S256x128 .f32)), Σ' (L4 : List (View.Piece (Elt F) S256x8 .f32)), Σ' (L5 : List (View.Piece (Elt F) S1x1 .f32)), Σ' (LS0 : List (View.Piece (Elt F) S1x128 .f32)), Σ' (LS1 : List (View.Piece (Elt F) S1x128 .f32)), { LS2 : List (View.Piece (Elt F) S1x128 .f32) //
      ∀ (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xi5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__route_body i arg1 harg1 arg2 harg2 arg3 harg3 arg4 harg4 arg5 harg5 arg6 harg6 arg7 harg7 arg8 harg8 arg9 harg9) K } := by
  refine ⟨?_, ?_, ?_, [], ?_, ?_, ?_, fun xi5 E K => ?run⟩
  case run =>
    simp only [cc0__route_body_eq_skeleton]; unfold cc0__route_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg6.eq_unread hf5; obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg6.read_unread _
      iexact H5
    isplitl [HS0]; · iexists _; iexact HS0
    isplitl [HS1]; · iexists _; iexact HS1
    iexists _; iexact HS2

set_option maxHeartbeats 1200000 in
noncomputable def kernelRun0_C (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S256x128 .i32) (harg3 : arg3.IsWhole) (arg4 : Memref sig .tc .vmem S256x128 .f32) (harg4 : arg4.IsWhole) (arg5 : Memref sig .tc .vmem S256x8 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) :
    Σ' (L2 : List (View.Piece (Elt F) S256x128 .i32)), Σ' (L3 : List (View.Piece (Elt F) S256x128 .f32)), Σ' (L4 : List (View.Piece (Elt F) S256x8 .f32)), Σ' (L5 : List (View.Piece (Elt F) S1x1 .f32)), Σ' (LS0 : List (View.Piece (Elt F) S1x128 .f32)), Σ' (LS1 : List (View.Piece (Elt F) S1x128 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__route_body i arg1 harg1 arg2 harg2 arg3 harg3 arg4 harg4 arg5 harg5 arg6 harg6 arg7 harg7 arg8 harg8 arg9 harg9) K } := by
  refine ⟨?_, ?_, ?_, ?_, ?_, ?_, ?_, fun E K => ?run⟩
  case run =>
    simp only [cc0__route_body_eq_skeleton]; unfold cc0__route_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Whole

end
-- ==== Proof.RouteBody.lean ====
module

public import proofs.«01_k».proof.Proof.RouteRuns

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S256x128 .i32) (harg3 : arg3.IsWhole) (arg4 : Memref sig .tc .vmem S256x128 .f32) (harg4 : arg4.IsWhole) (arg5 : Memref sig .tc .vmem S256x8 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
theorem cover0_A_2 (hc0 : cond0_0 i) (hc1 : ¬cond0_1 i)
    (x0 : Vec F S256x1024 .f32) (x1 : Vec F S1024x128 .f32) (y : S256x128.Idx) :
    ∃ pc ∈ (kernelRun0_A c i arg1 harg1 arg2 harg2 arg3 harg3 arg4 harg4 arg5 harg5 arg6 harg6 arg7 harg7 arg8 harg8 arg9 harg9 hc0 hc1 x0 x1).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).1 S256x128.size (by sl_kernel_rfl) y

def out0_A_2 (hc0 : cond0_0 i) (hc1 : ¬cond0_1 i)
    (x0 : Vec F S256x1024 .f32) (x1 : Vec F S1024x128 .f32) : Vec F S256x128 .i32 :=
  VO0_2.read (Elt F) (VO0_2.writes (Elt F) VO0_2.junk (kernelRun0_A c i arg1 harg1 arg2 harg2 arg3 harg3 arg4 harg4 arg5 harg5 arg6 harg6 arg7 harg7 arg8 harg8 arg9 harg9 hc0 hc1 x0 x1).1)

theorem cover0_A_3 (hc0 : cond0_0 i) (hc1 : ¬cond0_1 i)
    (x0 : Vec F S256x1024 .f32) (x1 : Vec F S1024x128 .f32) (y : S256x128.Idx) :
    ∃ pc ∈ (kernelRun0_A c i arg1 harg1 arg2 harg2 arg3 harg3 arg4 harg4 arg5 harg5 arg6 harg6 arg7 harg7 arg8 harg8 arg9 harg9 hc0 hc1 x0 x1).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).2.1 S256x128.size (by sl_kernel_rfl) y

def out0_A_3 (hc0 : cond0_0 i) (hc1 : ¬cond0_1 i)
    (x0 : Vec F S256x1024 .f32) (x1 : Vec F S1024x128 .f32) : Vec F S256x128 .f32 :=
  VO0_3.read (Elt F) (VO0_3.writes (Elt F) VO0_3.junk (kernelRun0_A c i arg1 harg1 arg2 harg2 arg3 harg3 arg4 harg4 arg5 harg5 arg6 harg6 arg7 harg7 arg8 harg8 arg9 harg9 hc0 hc1 x0 x1).2.1)

theorem cover0_A_4 (hc0 : cond0_0 i) (hc1 : ¬cond0_1 i)
    (x0 : Vec F S256x1024 .f32) (x1 : Vec F S1024x128 .f32) (y : S256x8.Idx) :
    ∃ pc ∈ (kernelRun0_A c i arg1 harg1 arg2 harg2 arg3 harg3 arg4 harg4 arg5 harg5 arg6 harg6 arg7 harg7 arg8 harg8 arg9 harg9 hc0 hc1 x0 x1).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).2.2.1 S256x8.size (by sl_kernel_rfl) y

def out0_A_4 (hc0 : cond0_0 i) (hc1 : ¬cond0_1 i)
    (x0 : Vec F S256x1024 .f32) (x1 : Vec F S1024x128 .f32) : Vec F S256x8 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 x0 x1).2.2.1)

def out0_A_5 (hc0 : cond0_0 i) (hc1 : ¬cond0_1 i)
    (x0 : Vec F S256x1024 .f32) (x1 : Vec F S1024x128 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1).2.2.2.1)

theorem scover0_A_0 (hc0 : cond0_0 i) (hc1 : ¬cond0_1 i)
    (x0 : Vec F S256x1024 .f32) (x1 : Vec F S1024x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1).2.2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).2.2.2.2.1 S1x128.size (by sl_kernel_rfl) y

def sout0_A_0 (hc0 : cond0_0 i) (hc1 : ¬cond0_1 i)
    (x0 : Vec F S256x1024 .f32) (x1 : Vec F S1024x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1).2.2.2.2.1)

theorem scover0_A_1 (hc0 : cond0_0 i) (hc1 : ¬cond0_1 i)
    (x0 : Vec F S256x1024 .f32) (x1 : Vec F S1024x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1).2.2.2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).2.2.2.2.2.1 S1x128.size (by sl_kernel_rfl) y

def sout0_A_1 (hc0 : cond0_0 i) (hc1 : ¬cond0_1 i)
    (x0 : Vec F S256x1024 .f32) (x1 : Vec F S1024x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1).2.2.2.2.2.1)

theorem scover0_A_2 (hc0 : cond0_0 i) (hc1 : ¬cond0_1 i)
    (x0 : Vec F S256x1024 .f32) (x1 : Vec F S1024x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1).2.2.2.2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).2.2.2.2.2.2.1 S1x128.size (by sl_kernel_rfl) y

def sout0_A_2 (hc0 : cond0_0 i) (hc1 : ¬cond0_1 i)
    (x0 : Vec F S256x1024 .f32) (x1 : Vec F S1024x128 .f32) : Vec F S1x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 x0 x1).2.2.2.2.2.2.1)

theorem cover0_B_2 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) (y : S256x128.Idx) :
    ∃ pc ∈ (kernelRun0_B c i arg1 harg1 arg2 harg2 arg3 harg3 arg4 harg4 arg5 harg5 arg6 harg6 arg7 harg7 arg8 harg8 arg9 harg9 hc0 hc1 x0 x1 xs0 xs1 xs2).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0 xs1 xs2).1 S256x128.size (by sl_kernel_rfl) y

def out0_B_2 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) : Vec F S256x128 .i32 :=
  VO0_2.read (Elt F) (VO0_2.writes (Elt F) VO0_2.junk (kernelRun0_B c i arg1 harg1 arg2 harg2 arg3 harg3 arg4 harg4 arg5 harg5 arg6 harg6 arg7 harg7 arg8 harg8 arg9 harg9 hc0 hc1 x0 x1 xs0 xs1 xs2).1)

theorem cover0_B_3 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) (y : S256x128.Idx) :
    ∃ pc ∈ (kernelRun0_B c i arg1 harg1 arg2 harg2 arg3 harg3 arg4 harg4 arg5 harg5 arg6 harg6 arg7 harg7 arg8 harg8 arg9 harg9 hc0 hc1 x0 x1 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0 xs1 xs2).2.1 S256x128.size (by sl_kernel_rfl) y

def out0_B_3 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) : Vec F S256x128 .f32 :=
  VO0_3.read (Elt F) (VO0_3.writes (Elt F) VO0_3.junk (kernelRun0_B c i arg1 harg1 arg2 harg2 arg3 harg3 arg4 harg4 arg5 harg5 arg6 harg6 arg7 harg7 arg8 harg8 arg9 harg9 hc0 hc1 x0 x1 xs0 xs1 xs2).2.1)

theorem cover0_B_4 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) (y : S256x8.Idx) :
    ∃ pc ∈ (kernelRun0_B c i arg1 harg1 arg2 harg2 arg3 harg3 arg4 harg4 arg5 harg5 arg6 harg6 arg7 harg7 arg8 harg8 arg9 harg9 hc0 hc1 x0 x1 xs0 xs1 xs2).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0 xs1 xs2).2.2.1 S256x8.size (by sl_kernel_rfl) y

def out0_B_4 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) : Vec F S256x8 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 x0 x1 xs0 xs1 xs2).2.2.1)

def out0_B_5 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 xs0 xs1 xs2).2.2.2.1)

theorem scover0_B_0 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0 xs1 xs2).2.2.2.2.1 S1x128.size (by sl_kernel_rfl) y

def sout0_B_0 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 xs0 xs1 xs2).2.2.2.2.1)

theorem scover0_B_1 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0 xs1 xs2).2.2.2.2.2.1 S1x128.size (by sl_kernel_rfl) y

def sout0_B_1 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 xs0 xs1 xs2).2.2.2.2.2.1)

theorem scover0_B_2 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 xs0 xs1 xs2).2.2.2.2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0 xs1 xs2).2.2.2.2.2.2.1 S1x128.size (by sl_kernel_rfl) y

def sout0_B_2 (hc0 : ¬cond0_0 i) (hc1 : ¬cond0_1 i)
    (x0 : Vec F S256x1024 .f32) (x1 : Vec F S1024x128 .f32) (xs0 : Vec F S1x128 .f32) (xs1 : Vec F S1x128 .f32) (xs2 : Vec F S1x128 .f32) : Vec F S1x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 hc0 hc1 x0 x1 xs0 xs1 xs2).2.2.2.2.2.2.1)

theorem cover0_C_2 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) (y : S256x128.Idx) :
    ∃ pc ∈ (kernelRun0_C c i arg1 harg1 arg2 harg2 arg3 harg3 arg4 harg4 arg5 harg5 arg6 harg6 arg7 harg7 arg8 harg8 arg9 harg9 hc0 hc1 x0 x1 xs0 xs1 xs2).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 xs0 xs1 xs2).1 S256x128.size (by sl_kernel_rfl) y

def out0_C_2 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) : Vec F S256x128 .i32 :=
  VO0_2.read (Elt F) (VO0_2.writes (Elt F) VO0_2.junk (kernelRun0_C c i arg1 harg1 arg2 harg2 arg3 harg3 arg4 harg4 arg5 harg5 arg6 harg6 arg7 harg7 arg8 harg8 arg9 harg9 hc0 hc1 x0 x1 xs0 xs1 xs2).1)

theorem cover0_C_3 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) (y : S256x128.Idx) :
    ∃ pc ∈ (kernelRun0_C c i arg1 harg1 arg2 harg2 arg3 harg3 arg4 harg4 arg5 harg5 arg6 harg6 arg7 harg7 arg8 harg8 arg9 harg9 hc0 hc1 x0 x1 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 xs0 xs1 xs2).2.1 S256x128.size (by sl_kernel_rfl) y

def out0_C_3 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) : Vec F S256x128 .f32 :=
  VO0_3.read (Elt F) (VO0_3.writes (Elt F) VO0_3.junk (kernelRun0_C c i arg1 harg1 arg2 harg2 arg3 harg3 arg4 harg4 arg5 harg5 arg6 harg6 arg7 harg7 arg8 harg8 arg9 harg9 hc0 hc1 x0 x1 xs0 xs1 xs2).2.1)

theorem cover0_C_4 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) (y : S256x8.Idx) :
    ∃ pc ∈ (kernelRun0_C c i arg1 harg1 arg2 harg2 arg3 harg3 arg4 harg4 arg5 harg5 arg6 harg6 arg7 harg7 arg8 harg8 arg9 harg9 hc0 hc1 x0 x1 xs0 xs1 xs2).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 xs0 xs1 xs2).2.2.1 S256x8.size (by sl_kernel_rfl) y

def out0_C_4 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) : Vec F S256x8 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 x0 x1 xs0 xs1 xs2).2.2.1)

theorem cover0_C_5 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) (y : S1x1.Idx) :
    ∃ pc ∈ (kernelRun0_C c i arg1 harg1 arg2 harg2 arg3 harg3 arg4 harg4 arg5 harg5 arg6 harg6 arg7 harg7 arg8 harg8 arg9 harg9 hc0 hc1 x0 x1 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 xs0 xs1 xs2).2.2.2.1 S1x1.size (by sl_kernel_rfl) y

def out0_C_5 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) : Vec F S1x1 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 xs0 xs1 xs2).2.2.2.1)

theorem scover0_C_0 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 xs0 xs1 xs2).2.2.2.2.1 S1x128.size (by sl_kernel_rfl) y

def sout0_C_0 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 xs0 xs1 xs2).2.2.2.2.1)

theorem scover0_C_1 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 xs0 xs1 xs2).2.2.2.2.2.1 S1x128.size (by sl_kernel_rfl) y

def sout0_C_1 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 xs0 xs1 xs2).2.2.2.2.2.1)

theorem scover0_C_2 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 xs0 xs1 xs2).2.2.2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 xs0 xs1 xs2).2.2.2.2.2.2.1 S1x128.size (by sl_kernel_rfl) y

def sout0_C_2 (hc0 : ¬cond0_0 i) (hc1 : cond0_1 i)
    (x0 : Vec F S256x1024 .f32) (x1 : Vec F S1024x128 .f32) (xs0 : Vec F S1x128 .f32) (xs1 : Vec F S1x128 .f32) (xs2 : Vec F S1x128 .f32) : Vec F S1x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 hc0 hc1 x0 x1 xs0 xs1 xs2).2.2.2.2.2.2.1)

end

/-- What a point of case A leaves in the output buffers and in the scratch. -/
def left0_A (c : Dev nD) (t : Fin cfg0.N) (hc0 : cond0_0 (grid0.coords t)) (hc1 : ¬cond0_1 (grid0.coords t)) (x0 : Vec F S256x1024 .f32) (x1 : Vec F S1024x128 .f32) : Vec F S256x128 .i32 × Vec F S256x128 .f32 × Vec F S256x8 .f32 × Vec F S1x1 .f32 × Vec F S1x128 .f32 × Vec F S1x128 .f32 × Vec F S1x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1,
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1,
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1,
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1,
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1,
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1,
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1)

/-- What a point of case B leaves in the output buffers and in the scratch. -/
def left0_B (c : Dev nD) (t : Fin cfg0.N) (hc0 : ¬cond0_0 (grid0.coords t)) (hc1 : ¬cond0_1 (grid0.coords t)) (x0 : Vec F S256x1024 .f32) (x1 : Vec F S1024x128 .f32) (xs0 xs1 xs2 : Vec F S1x128 .f32) : Vec F S256x128 .i32 × Vec F S256x128 .f32 × Vec F S256x8 .f32 × Vec F S1x1 .f32 × Vec F S1x128 .f32 × Vec F S1x128 .f32 × Vec F S1x128 .f32 :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2)

/-- What a point of case C leaves in the output buffers and in the scratch. -/
def left0_C (c : Dev nD) (t : Fin cfg0.N) (hc0 : ¬cond0_0 (grid0.coords t)) (hc1 : cond0_1 (grid0.coords t)) (x0 : Vec F S256x1024 .f32) (x1 : Vec F S1024x128 .f32) (xs0 xs1 xs2 : Vec F S1x128 .f32) : Vec F S256x128 .i32 × Vec F S256x128 .f32 × Vec F S256x8 .f32 × Vec F S1x1 .f32 × Vec F S1x128 .f32 × Vec F S1x128 .f32 × Vec F S1x128 .f32 :=
  (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 x0 x1 xs0 xs1 xs2)

/-- What the output buffers and the scratch hold after the body at each position. -/
def outsAt0 (c : Dev nD) : (n : ℕ) → n < cfg0.N → Vec F S256x128 .i32 × Vec F S256x128 .f32 × Vec F S256x8 .f32 × Vec F S1x1 .f32 × Vec F S1x128 .f32 × Vec F S1x128 .f32 × Vec F S1x128 .f32
  | 0, hn => left0_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 8 = 0 then
      if h1 : (n + 1) % 8 = 7 then
        False.elim (by have hN : n + 1 < 8 := lt_of_lt_of_eq hn (show cfg0.N = 8 from N_0); omega)
      else
        left0_A c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 8 = 7 then
        left0_C c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2
      else
        left0_B c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2

theorem outsAt0_A (c : Dev nD) (t : Fin cfg0.N) (h0 : t.val % 8 = 0) (h1 : ¬t.val % 8 = 7) :
    outsAt0 V c t.val t.isLt = left0_A c t ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = left0_B c t (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = left0_C c t (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.1) ∗ owns (c : Thread nD τ) scM0_1 fullShare ((outsAt0 V c n hn).2.2.2.2.2.1) ∗ owns (c : Thread nD τ) scM0_2 fullShare ((outsAt0 V c n hn).2.2.2.2.2.2) ∗ Pipeline.scopedRestBut spec0 c [cc0_scratch0, cc0_scratch1, cc0_scratch2]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.2.1) ∗ owns (c : Thread nD τ) scM0_1 fullShare ((outsAt0 V c n hn).2.2.2.2.2.1) ∗ owns (c : Thread nD τ) scM0_2 fullShare ((outsAt0 V c n hn).2.2.2.2.2.2) ∗ Pipeline.scopedRestBut spec0 c [cc0_scratch0, cc0_scratch1, cc0_scratch2]) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2.1) ∗ owns (c : Thread nD τ) scM0_1 fullShare ((outsAt0 V c (n - 1) (by omega)).2.2.2.2.2.1) ∗ owns (c : Thread nD τ) scM0_2 fullShare ((outsAt0 V c (n - 1) (by omega)).2.2.2.2.2.2) ∗ Pipeline.scopedRestBut spec0 c [cc0_scratch0, cc0_scratch1, cc0_scratch2]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 9600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold left0_A out0_A_2 out0_A_3 out0_A_4 sout0_A_0 sout0_A_1 sout0_A_2; (try dsimp only)
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t)).2.2.2.2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        isplitl [HS1]; · iexact HS1
        isplitl [HS2]; · iexact HS2
        iintro ⟨H0, H1, ⟨%e2, H2⟩, ⟨%e3, H3⟩, ⟨%e4, H4⟩, H5, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _)
        iexists _; iexact H5
      · exfalso; have hN : t.val < 8 := lt_of_lt_of_eq t.isLt (show cfg0.N = 8 from N_0); omega
  · by_cases h1 : t.val % 8 = 7
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5_C t (fun h => h0 ((hcond0_0 t).mp h)) ((hcond0_1 t).mpr h1)], after0_5]
      by_cases hz : t.val = 0
      · exfalso; have hN : t.val < 8 := lt_of_lt_of_eq t.isLt (show cfg0.N = 8 from N_0); omega
      · rw [PhiS_castSucc V c t, PhiS_pos V c _ _ hz]
        rw [outsAt0_C V c t h0 h1]
        unfold left0_C out0_C_2 out0_C_3 out0_C_4 out0_C_5 sout0_C_0 sout0_C_1 sout0_C_2; (try dsimp only)
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) _ _ _).2.2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        iintro ⟨H0, H1, ⟨%e2, H2⟩, ⟨%e3, H3⟩, ⟨%e4, H4⟩, ⟨%e5, H5⟩, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc V c t, PhiS_pos V c _ _ hz]
        rw [outsAt0_B V c t h0 h1]
        unfold left0_B out0_B_2 out0_B_3 out0_B_4 sout0_B_0 sout0_B_1 sout0_B_2; (try dsimp only)
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) _ _ _).2.2.2.2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        isplitl [HS1]; · iexact HS1
        isplitl [HS2]; · iexact HS2
        iintro ⟨H0, H1, ⟨%e2, H2⟩, ⟨%e3, H3⟩, ⟨%e4, H4⟩, H5, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _)
        iexists _; iexact H5

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HR⟩, Hg⟩
  isplitl [HS0 HS1 HS2 HR]
  · isplitl [HS0]
    · iexists _; iexact HS0
    isplitl [HS1]
    · iexists _; iexact HS1
    isplitl [HS2]
    · iexists _; iexact HS2
    iexact HR
  iexact Hg

theorem hout0 (c : Dev nD) : (dat0 V c).Φ (Fin.last cfg0.N) ⊢ Pipeline.ΦA spec0 c :=
  Phi_out V c _ (by rw [Fin.val_last]; have : cfg0.N = 8 := N_0; omega)

end Cert.KernelIdeal.Whole

end
-- ==== Proof.ProjBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! The query, key and value projection. -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x1024 := Rect.unit (s := S256x1024) ![0, 0] S256x1024.size inb_S256x1024_S256x1024_0_0
abbrev r1_1 : Rect S256x128 := Rect.unit (s := S256x128) ![0, 0] S256x128.size inb_S256x128_S256x128_0_0
abbrev r1_2 : Rect S1024x1536 := Rect.unit (s := S1024x1536) ![0, 0] S1024x1536.size inb_S1024x1536_S1024x1536_0_0
abbrev r1_3 : Rect S12x256x128 := Rect.unit (s := S12x256x128) ![0, 0, 0] S1x256x128.size inb_S12x256x128_S1x256x128_0_0_0
abbrev r1_4 : Rect S12x256x128 := Rect.unit (s := S12x256x128) ![1, 0, 0] S1x256x128.size inb_S12x256x128_S1x256x128_1_0_0
abbrev r1_5 : Rect S12x256x128 := Rect.unit (s := S12x256x128) ![2, 0, 0] S1x256x128.size inb_S12x256x128_S1x256x128_2_0_0
abbrev r1_6 : Rect S12x256x128 := Rect.unit (s := S12x256x128) ![3, 0, 0] S1x256x128.size inb_S12x256x128_S1x256x128_3_0_0
abbrev r1_7 : Rect S12x256x128 := Rect.unit (s := S12x256x128) ![4, 0, 0] S1x256x128.size inb_S12x256x128_S1x256x128_4_0_0
abbrev r1_8 : Rect S12x256x128 := Rect.unit (s := S12x256x128) ![5, 0, 0] S1x256x128.size inb_S12x256x128_S1x256x128_5_0_0
abbrev r1_9 : Rect S12x256x128 := Rect.unit (s := S12x256x128) ![6, 0, 0] S1x256x128.size inb_S12x256x128_S1x256x128_6_0_0
abbrev r1_10 : Rect S12x256x128 := Rect.unit (s := S12x256x128) ![7, 0, 0] S1x256x128.size inb_S12x256x128_S1x256x128_7_0_0
abbrev r1_11 : Rect S12x256x128 := Rect.unit (s := S12x256x128) ![8, 0, 0] S1x256x128.size inb_S12x256x128_S1x256x128_8_0_0
abbrev r1_12 : Rect S12x256x128 := Rect.unit (s := S12x256x128) ![9, 0, 0] S1x256x128.size inb_S12x256x128_S1x256x128_9_0_0
abbrev r1_13 : Rect S12x256x128 := Rect.unit (s := S12x256x128) ![10, 0, 0] S1x256x128.size inb_S12x256x128_S1x256x128_10_0_0
abbrev r1_14 : Rect S12x256x128 := Rect.unit (s := S12x256x128) ![11, 0, 0] S1x256x128.size inb_S12x256x128_S1x256x128_11_0_0
abbrev r1_15 : Rect S1024x768 := Rect.unit (s := S1024x768) ![0, 0] S1024x768.size inb_S1024x768_S1024x768_0_0
abbrev r1_16 : Rect S6x256x128 := Rect.unit (s := S6x256x128) ![0, 0, 0] S1x256x128.size inb_S6x256x128_S1x256x128_0_0_0
abbrev r1_17 : Rect S6x256x128 := Rect.unit (s := S6x256x128) ![1, 0, 0] S1x256x128.size inb_S6x256x128_S1x256x128_1_0_0
abbrev r1_18 : Rect S6x256x128 := Rect.unit (s := S6x256x128) ![2, 0, 0] S1x256x128.size inb_S6x256x128_S1x256x128_2_0_0
abbrev r1_19 : Rect S6x256x128 := Rect.unit (s := S6x256x128) ![3, 0, 0] S1x256x128.size inb_S6x256x128_S1x256x128_3_0_0
abbrev r1_20 : Rect S6x256x128 := Rect.unit (s := S6x256x128) ![4, 0, 0] S1x256x128.size inb_S6x256x128_S1x256x128_4_0_0
abbrev r1_21 : Rect S6x256x128 := Rect.unit (s := S6x256x128) ![5, 0, 0] S1x256x128.size inb_S6x256x128_S1x256x128_5_0_0

def k1_pay41 (x0 : Vec F S256x1024 .f32) (x1 : Vec F S1024x1536 .f32) (x2 : Vec F S1024x768 .f32) (x3 : Vec F S1024x768 .f32) (x4 : Vec F S256x128 .f32) (x5 : Vec F S256x128 .f32) : FVec F S256x1024 .f32 :=
  k1_pay4 (View.ld x0 r1_0) -- `v1`
def k1_pay42 (x0 : Vec F S256x1024 .f32) (x1 : Vec F S1024x1536 .f32) (x2 : Vec F S1024x768 .f32) (x3 : Vec F S1024x768 .f32) (x4 : Vec F S256x128 .f32) (x5 : Vec F S256x128 .f32) : FVec F S256x128 .f32 :=
  k1_pay5 (View.ld x4 r1_1) -- `v3`
def k1_pay43 (x0 : Vec F S256x1024 .f32) (x1 : Vec F S1024x1536 .f32) (x2 : Vec F S1024x768 .f32) (x3 : Vec F S1024x768 .f32) (x4 : Vec F S256x128 .f32) (x5 : Vec F S256x128 .f32) : FVec F S256x128 .f32 :=
  k1_pay6 (View.ld x5 r1_1) -- `v5`
def k1_pay44 (x0 : Vec F S256x1024 .f32) (x1 : Vec F S1024x1536 .f32) (x2 : Vec F S1024x768 .f32) (x3 : Vec F S1024x768 .f32) (x4 : Vec F S256x128 .f32) (x5 : Vec F S256x128 .f32) : FVec F S256x1536 .f32 :=
  k1_pay7 (View.ld x0 r1_0) (View.ld x1 r1_2) -- `v7`
def k1_pay45 (x0 : Vec F S256x1024 .f32) (x1 : Vec F S1024x1536 .f32) (x2 : Vec F S1024x768 .f32) (x3 : Vec F S1024x768 .f32) (x4 : Vec F S256x128 .f32) (x5 : Vec F S256x128 .f32) : FVec F S256x768 .f32 :=
  k1_pay26 (k1_pay41 x0 x1 x2 x3 x4 x5) (View.ld x2 r1_15) -- `v153`
def k1_pay46 (x0 : Vec F S256x1024 .f32) (x1 : Vec F S1024x1536 .f32) (x2 : Vec F S1024x768 .f32) (x3 : Vec F S1024x768 .f32) (x4 : Vec F S256x128 .f32) (x5 : Vec F S256x128 .f32) : FVec F S256x768 .f32 :=
  k1_pay36 (k1_pay41 x0 x1 x2 x3 x4 x5) (View.ld x3 r1_15) -- `v227`

def out1_6 (x0 : Vec F S256x1024 .f32) (x1 : Vec F S1024x1536 .f32) (x2 : Vec F S1024x768 .f32) (x3 : Vec F S1024x768 .f32) (x4 : Vec F S256x128 .f32) (x5 : Vec F S256x128 .f32) : Vec F S12x256x128 .f32 :=
  View.canon [⟨r1_14, k1_pay25 (k1_pay42 x0 x1 x2 x3 x4 x5) (k1_pay43 x0 x1 x2 x3 x4 x5) (k1_pay44 x0 x1 x2 x3 x4 x5)⟩,
    ⟨r1_13, k1_pay24 (k1_pay42 x0 x1 x2 x3 x4 x5) (k1_pay43 x0 x1 x2 x3 x4 x5) (k1_pay44 x0 x1 x2 x3 x4 x5)⟩,
    ⟨r1_12, k1_pay23 (k1_pay21 (k1_pay42 x0 x1 x2 x3 x4 x5) (k1_pay44 x0 x1 x2 x3 x4 x5)) (k1_pay22 (k1_pay43 x0 x1 x2 x3 x4 x5) (k1_pay44 x0 x1 x2 x3 x4 x5))⟩,
    ⟨r1_11, k1_pay19 (k1_pay42 x0 x1 x2 x3 x4 x5) (k1_pay43 x0 x1 x2 x3 x4 x5) (k1_pay44 x0 x1 x2 x3 x4 x5)⟩,
    ⟨r1_10, k1_pay18 (k1_pay42 x0 x1 x2 x3 x4 x5) (k1_pay43 x0 x1 x2 x3 x4 x5) (k1_pay44 x0 x1 x2 x3 x4 x5)⟩,
    ⟨r1_9, k1_pay17 (k1_pay42 x0 x1 x2 x3 x4 x5) (k1_pay43 x0 x1 x2 x3 x4 x5) (k1_pay44 x0 x1 x2 x3 x4 x5)⟩,
    ⟨r1_8, k1_pay16 (k1_pay42 x0 x1 x2 x3 x4 x5) (k1_pay43 x0 x1 x2 x3 x4 x5) (k1_pay44 x0 x1 x2 x3 x4 x5)⟩,
    ⟨r1_7, k1_pay15 (k1_pay42 x0 x1 x2 x3 x4 x5) (k1_pay43 x0 x1 x2 x3 x4 x5) (k1_pay44 x0 x1 x2 x3 x4 x5)⟩,
    ⟨r1_6, k1_pay14 (k1_pay42 x0 x1 x2 x3 x4 x5) (k1_pay43 x0 x1 x2 x3 x4 x5) (k1_pay44 x0 x1 x2 x3 x4 x5)⟩,
    ⟨r1_5, k1_pay13 (k1_pay43 x0 x1 x2 x3 x4 x5) (k1_pay11 (View.ld x0 r1_0) (View.ld x1 r1_2)) (k1_pay12 (View.ld x0 r1_0) (View.ld x4 r1_1) (View.ld x1 r1_2))⟩,
    ⟨r1_4, k1_pay9 (View.ld x0 r1_0) (View.ld x4 r1_1) (View.ld x5 r1_1) (View.ld x1 r1_2)⟩,
    ⟨r1_3, k1_pay8 (View.ld x0 r1_0) (View.ld x4 r1_1) (View.ld x5 r1_1) (View.ld x1 r1_2)⟩]

theorem cover1_6 (p0 : Vec F S1x256x128 .f32) (p1 : Vec F S1x256x128 .f32) (p2 : Vec F S1x256x128 .f32) (p3 : Vec F S1x256x128 .f32) (p4 : Vec F S1x256x128 .f32) (p5 : Vec F S1x256x128 .f32) (p6 : Vec F S1x256x128 .f32) (p7 : Vec F S1x256x128 .f32) (p8 : Vec F S1x256x128 .f32) (p9 : Vec F S1x256x128 .f32) (p10 : Vec F S1x256x128 .f32) (p11 : Vec F S1x256x128 .f32) (y : S12x256x128.Idx) :
    ∃ pc ∈ ([⟨r1_14, p0⟩, ⟨r1_13, p1⟩, ⟨r1_12, p2⟩, ⟨r1_11, p3⟩, ⟨r1_10, p4⟩, ⟨r1_9, p5⟩, ⟨r1_8, p6⟩, ⟨r1_7, p7⟩, ⟨r1_6, p8⟩, ⟨r1_5, p9⟩, ⟨r1_4, p10⟩, ⟨r1_3, p11⟩] : List (View.Piece (Elt F) S12x256x128 .f32)), y ∈ pc.1.set :=
  View.cover_of_tiled [⟨r1_14, p0⟩, ⟨r1_13, p1⟩, ⟨r1_12, p2⟩, ⟨r1_11, p3⟩, ⟨r1_10, p4⟩, ⟨r1_9, p5⟩, ⟨r1_8, p6⟩, ⟨r1_7, p7⟩, ⟨r1_6, p8⟩, ⟨r1_5, p9⟩, ⟨r1_4, p10⟩, ⟨r1_3, p11⟩] S1x256x128.size (by rfl) y

def out1_7 (x0 : Vec F S256x1024 .f32) (x1 : Vec F S1024x1536 .f32) (x2 : Vec F S1024x768 .f32) (x3 : Vec F S1024x768 .f32) (x4 : Vec F S256x128 .f32) (x5 : Vec F S256x128 .f32) : Vec F S6x256x128 .f32 :=
  View.canon [⟨r1_21, k1_pay35 (k1_pay42 x0 x1 x2 x3 x4 x5) (k1_pay43 x0 x1 x2 x3 x4 x5) (k1_pay45 x0 x1 x2 x3 x4 x5)⟩,
    ⟨r1_20, k1_pay34 (k1_pay42 x0 x1 x2 x3 x4 x5) (k1_pay43 x0 x1 x2 x3 x4 x5) (k1_pay32 (k1_pay45 x0 x1 x2 x3 x4 x5)) (k1_pay33 (k1_pay45 x0 x1 x2 x3 x4 x5))⟩,
    ⟨r1_19, k1_pay31 (k1_pay42 x0 x1 x2 x3 x4 x5) (k1_pay43 x0 x1 x2 x3 x4 x5) (k1_pay45 x0 x1 x2 x3 x4 x5)⟩,
    ⟨r1_18, k1_pay30 (k1_pay42 x0 x1 x2 x3 x4 x5) (k1_pay43 x0 x1 x2 x3 x4 x5) (k1_pay45 x0 x1 x2 x3 x4 x5)⟩,
    ⟨r1_17, k1_pay29 (k1_pay42 x0 x1 x2 x3 x4 x5) (k1_pay43 x0 x1 x2 x3 x4 x5) (k1_pay45 x0 x1 x2 x3 x4 x5)⟩,
    ⟨r1_16, k1_pay28 (k1_pay27 (k1_pay41 x0 x1 x2 x3 x4 x5) (k1_pay42 x0 x1 x2 x3 x4 x5) (k1_pay43 x0 x1 x2 x3 x4 x5) (View.ld x2 r1_15))⟩]

theorem cover1_7 (p0 : Vec F S1x256x128 .f32) (p1 : Vec F S1x256x128 .f32) (p2 : Vec F S1x256x128 .f32) (p3 : Vec F S1x256x128 .f32) (p4 : Vec F S1x256x128 .f32) (p5 : Vec F S1x256x128 .f32) (y : S6x256x128.Idx) :
    ∃ pc ∈ ([⟨r1_21, p0⟩, ⟨r1_20, p1⟩, ⟨r1_19, p2⟩, ⟨r1_18, p3⟩, ⟨r1_17, p4⟩, ⟨r1_16, p5⟩] : List (View.Piece (Elt F) S6x256x128 .f32)), y ∈ pc.1.set :=
  View.cover_of_tiled [⟨r1_21, p0⟩, ⟨r1_20, p1⟩, ⟨r1_19, p2⟩, ⟨r1_18, p3⟩, ⟨r1_17, p4⟩, ⟨r1_16, p5⟩] S1x256x128.size (by rfl) y

def out1_8 (x0 : Vec F S256x1024 .f32) (x1 : Vec F S1024x1536 .f32) (x2 : Vec F S1024x768 .f32) (x3 : Vec F S1024x768 .f32) (x4 : Vec F S256x128 .f32) (x5 : Vec F S256x128 .f32) : Vec F S6x256x128 .f32 :=
  View.canon [⟨r1_21, k1_pay3 (k1_pay46 x0 x1 x2 x3 x4 x5)⟩,
    ⟨r1_20, k1_pay2 (k1_pay46 x0 x1 x2 x3 x4 x5)⟩,
    ⟨r1_19, k1_pay1 (k1_pay40 (k1_pay41 x0 x1 x2 x3 x4 x5) (View.ld x3 r1_15))⟩,
    ⟨r1_18, k1_pay39 (k1_pay41 x0 x1 x2 x3 x4 x5) (View.ld x3 r1_15)⟩,
    ⟨r1_17, k1_pay38 (k1_pay41 x0 x1 x2 x3 x4 x5) (View.ld x3 r1_15)⟩,
    ⟨r1_16, k1_pay37 (k1_pay41 x0 x1 x2 x3 x4 x5) (View.ld x3 r1_15)⟩]

theorem cover1_8 (p0 : Vec F S1x256x128 .f32) (p1 : Vec F S1x256x128 .f32) (p2 : Vec F S1x256x128 .f32) (p3 : Vec F S1x256x128 .f32) (p4 : Vec F S1x256x128 .f32) (p5 : Vec F S1x256x128 .f32) (y : S6x256x128.Idx) :
    ∃ pc ∈ ([⟨r1_21, p0⟩, ⟨r1_20, p1⟩, ⟨r1_19, p2⟩, ⟨r1_18, p3⟩, ⟨r1_17, p4⟩, ⟨r1_16, p5⟩] : List (View.Piece (Elt F) S6x256x128 .f32)), y ∈ pc.1.set :=
  View.cover_of_tiled [⟨r1_21, p0⟩, ⟨r1_20, p1⟩, ⟨r1_19, p2⟩, ⟨r1_18, p3⟩, ⟨r1_17, p4⟩, ⟨r1_16, p5⟩] S1x256x128.size (by rfl) y

set_option maxHeartbeats 1000000 in
theorem sound_kernel1 (c : Dev nD) (E : Set ℕ) (i : grid1.Coords) (arg1 : Memref sig .tc .vmem S256x1024 .f32) (harg1 : arg1.IsWhole) (arg2 : Memref sig .tc .vmem S1024x1536 .f32) (harg2 : arg2.IsWhole) (arg3 : Memref sig .tc .vmem S1024x768 .f32) (harg3 : arg3.IsWhole) (arg4 : Memref sig .tc .vmem S1024x768 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S12x256x128 .f32) (harg7 : arg7.IsWhole) (arg8 : Memref sig .tc .vmem S6x256x128 .f32) (harg8 : arg8.IsWhole) (arg9 : Memref sig .tc .vmem S6x256x128 .f32) (harg9 : arg9.IsWhole)
    (x0 : Vec F S256x1024 .f32) (x1 : Vec F S1024x1536 .f32) (x2 : Vec F S1024x768 .f32) (x3 : Vec F S1024x768 .f32) (x4 : Vec F S256x128 .f32) (x5 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1__qkv_body i arg1 harg1 arg2 harg2 arg3 harg3 arg4 harg4 arg5 harg5 arg6 harg6 arg7 harg7 arg8 harg8 arg9 harg9) K := by
  simp only [cc1__qkv_body_eq_skeleton]; unfold cc1__qkv_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _ _ _ _ _ _ _ _ _ _ _ _)).trans ?_
    rfl
  isplitl [H7]
  · iexists _; isplitr
    swap; · iexact H7
    ipureintro
    refine (View.read_writes_eq_canon _ _ _ (cover1_7 _ _ _ _ _ _)).trans ?_
    rfl
  iexists _; isplitr
  swap; · iexact H8
  ipureintro
  refine (View.read_writes_eq_canon _ _ _ (cover1_8 _ _ _ _ _ _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! The output projection. -/

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S256x128 := Rect.unit (s := S256x128) ![0, 0] S256x128.size inb_S256x128_S256x128_0_0
abbrev r6_1 : Rect S6x256x256 := Rect.unit (s := S6x256x256) ![0, 0, 0] S1x256x256.size inb_S6x256x256_S1x256x256_0_0_0
abbrev r6_2 : Rect S6x256x256 := Rect.unit (s := S6x256x256) ![1, 0, 0] S1x256x256.size inb_S6x256x256_S1x256x256_1_0_0
abbrev r6_3 : Rect S6x256x256 := Rect.unit (s := S6x256x256) ![2, 0, 0] S1x256x256.size inb_S6x256x256_S1x256x256_2_0_0
abbrev r6_4 : Rect S6x256x256 := Rect.unit (s := S6x256x256) ![3, 0, 0] S1x256x256.size inb_S6x256x256_S1x256x256_3_0_0
abbrev r6_5 : Rect S6x256x256 := Rect.unit (s := S6x256x256) ![4, 0, 0] S1x256x256.size inb_S6x256x256_S1x256x256_4_0_0
abbrev r6_6 : Rect S6x256x256 := Rect.unit (s := S6x256x256) ![5, 0, 0] S1x256x256.size inb_S6x256x256_S1x256x256_5_0_0
abbrev r6_7 : Rect S1024x1024 := Rect.unit (s := S1024x1024) ![0, 0] S256x1024.size inb_S1024x1024_S256x1024_0_0
abbrev r6_8 : Rect S1024x1024 := Rect.unit (s := S1024x1024) ![256, 0] S256x1024.size inb_S1024x1024_S256x1024_256_0
abbrev r6_9 : Rect S1024x1024 := Rect.unit (s := S1024x1024) ![512, 0] S256x1024.size inb_S1024x1024_S256x1024_512_0
abbrev r6_10 : Rect S1024x1024 := Rect.unit (s := S1024x1024) ![768, 0] S256x1024.size inb_S1024x1024_S256x1024_768_0
abbrev r6_11 : Rect S256x1024 := Rect.unit (s := S256x1024) ![0, 0] S256x1024.size inb_S256x1024_S256x1024_0_0

def k6_pay28 (x0 : Vec F S6x256x256 .f32) (x1 : Vec F S256x128 .i32) (x2 : Vec F S256x128 .f32) (x3 : Vec F S1024x1024 .f32) : IVec S256x128 32 :=
  k6_pay2 (View.ld x1 r6_0) -- `v1`
def k6_pay29 (x0 : Vec F S6x256x256 .f32) (x1 : Vec F S256x128 .i32) (x2 : Vec F S256x128 .f32) (x3 : Vec F S1024x1024 .f32) : FVec F S256x128 .f32 :=
  k6_pay3 (View.ld x2 r6_0) -- `v3`
def k6_pay30 (x0 : Vec F S6x256x256 .f32) (x1 : Vec F S256x128 .i32) (x2 : Vec F S256x128 .f32) (x3 : Vec F S1024x1024 .f32) : IVec S256x1 32 :=
  k6_pay11 (k6_pay28 x0 x1 x2 x3) -- `v73`
def k6_pay31 (x0 : Vec F S6x256x256 .f32) (x1 : Vec F S256x128 .i32) (x2 : Vec F S256x128 .f32) (x3 : Vec F S1024x1024 .f32) : IVec S256x1 32 :=
  k6_pay16 (k6_pay28 x0 x1 x2 x3) -- `v141`
def k6_pay32 (x0 : Vec F S6x256x256 .f32) (x1 : Vec F S256x128 .i32) (x2 : Vec F S256x128 .f32) (x3 : Vec F S1024x1024 .f32) : IVec S256x1 32 :=
  k6_pay23 (k6_pay28 x0 x1 x2 x3) -- `v209`

def out6_4 (x0 : Vec F S6x256x256 .f32) (x1 : Vec F S256x128 .i32) (x2 : Vec F S256x128 .f32) (x3 : Vec F S1024x1024 .f32) : Vec F S256x1024 .f32 :=
  View.canon [⟨r6_11, k6_pay1 (k6_pay22 (k6_pay15 (k6_pay10 (k6_pay4 (F := F)) (k6_pay5 (View.ld x1 r6_0)) (k6_pay6 (View.ld x2 r6_0)) (k6_pay7 (View.ld x1 r6_0) (View.ld x0 r6_1) (View.ld x0 r6_2)) (k6_pay8 (View.ld x1 r6_0)) (k6_pay9 (View.ld x0 r6_3)) (View.ld x0 r6_4) (View.ld x0 r6_5) (View.ld x0 r6_6) (View.ld x3 r6_7)) (k6_pay30 x0 x1 x2 x3) (k6_pay12 (k6_pay29 x0 x1 x2 x3)) (k6_pay13 (k6_pay30 x0 x1 x2 x3) (View.ld x0 r6_1) (View.ld x0 r6_2) (View.ld x0 r6_3)) (k6_pay14 (F := F) (k6_pay30 x0 x1 x2 x3)) (View.ld x0 r6_4) (View.ld x0 r6_5) (View.ld x0 r6_6) (View.ld x3 r6_8)) (k6_pay31 x0 x1 x2 x3) (k6_pay17 (k6_pay29 x0 x1 x2 x3)) (k6_pay20 (k6_pay31 x0 x1 x2 x3) (k6_pay18 (F := F)) (k6_pay19 (F := F) (k6_pay28 x0 x1 x2 x3)) (View.ld x0 r6_1) (View.ld x0 r6_2) (View.ld x0 r6_3) (View.ld x0 r6_4)) (k6_pay21 (k6_pay31 x0 x1 x2 x3)) (Scalar.ofBits .f32 0x3F800000#32) (Scalar.ofBits .f32 0x00000000#32) (View.ld x0 r6_5) (View.ld x0 r6_6) (View.ld x3 r6_9)) (k6_pay32 x0 x1 x2 x3) (k6_pay24 (k6_pay29 x0 x1 x2 x3)) (k6_pay27 (k6_pay32 x0 x1 x2 x3) (k6_pay25 (k6_pay28 x0 x1 x2 x3) (View.ld x0 r6_1)) (k6_pay26 (k6_pay28 x0 x1 x2 x3)) (Scalar.ofBits .f32 0x3F800000#32) (Scalar.ofBits .f32 0x00000000#32) (View.ld x0 r6_2) (View.ld x0 r6_3) (View.ld x0 r6_4) (View.ld x0 r6_5)) 5#32 (View.ld x0 r6_6) (View.ld x3 r6_10)⟩]

theorem cover6_4 (p0 : Vec F S256x1024 .f32) (y : S256x1024.Idx) :
    ∃ pc ∈ ([⟨r6_11, p0⟩] : List (View.Piece (Elt F) S256x1024 .f32)), y ∈ pc.1.set :=
  View.cover_of_tiled [⟨r6_11, p0⟩] S256x1024.size (by rfl) y

set_option maxHeartbeats 1000000 in
theorem sound_kernel6 (c : Dev nD) (E : Set ℕ) (i : grid6.Coords) (arg1 : Memref sig .tc .vmem S6x256x256 .f32) (harg1 : arg1.IsWhole) (arg2 : Memref sig .tc .vmem S256x128 .i32) (harg2 : arg2.IsWhole) (arg3 : Memref sig .tc .vmem S256x128 .f32) (harg3 : arg3.IsWhole) (arg4 : Memref sig .tc .vmem S1024x1024 .f32) (harg4 : arg4.IsWhole) (arg5 : Memref sig .tc .vmem S256x1024 .f32) (harg5 : arg5.IsWhole)
    (x0 : Vec F S6x256x256 .f32) (x1 : Vec F S256x128 .i32) (x2 : Vec F S256x128 .f32) (x3 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__out_body i arg1 harg1 arg2 harg2 arg3 harg3 arg4 harg4 arg5 harg5) K := by
  simp only [cc6__out_body_eq_skeleton]; unfold cc6__out_body_skel
  simp only [k6_part1_eq_skeleton, k6_part2_eq_skeleton, k6_part3_eq_skeleton, k6_part4_eq_skeleton, k6_part5_eq_skeleton, k6_part6_eq_skeleton, k6_part7_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover6_4 _)).trans ?_
  rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row6 (t : Fin cfg6.N) :
    defs₀ (F := F) .tc cfg6.body (cfg6.bodyArgs t (cfg6.slots t)) = bodyAt6 t := by
  unfold defs₀; rw [Defs.onTc_tc]

theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Cert.KernelIdeal.Whole

end
-- ==== Proof.AttBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! Attention over one segment of the queries. -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x512x128 := Rect.unit (s := S1x512x128) ![0, 0, 0] S1x512x128.size inb_S1x512x128_S1x512x128_0_0_0
abbrev r2_1 : Rect S1x1x512 := Rect.unit (s := S1x1x512) ![0, 0, 0] S1x1x512.size inb_S1x1x512_S1x1x512_0_0_0
abbrev r2_2 : Rect S2x256x128 := Rect.unit (s := S2x256x128) ![0, 0, 0] S1x256x128.size inb_S2x256x128_S1x256x128_0_0_0
abbrev r2_3 : Rect S1x256x256 := Rect.unit (s := S1x256x256) ![0, 0, 0] S1x256x128.size inb_S1x256x256_S1x256x128_0_0_0
abbrev r2_4 : Rect S2x256x128 := Rect.unit (s := S2x256x128) ![1, 0, 0] S1x256x128.size inb_S2x256x128_S1x256x128_1_0_0
abbrev r2_5 : Rect S1x256x256 := Rect.unit (s := S1x256x256) ![0, 0, 128] S1x256x128.size inb_S1x256x256_S1x256x128_0_0_128

def out2_4 (i : grid2.Coords) (x0 : Vec F S2x256x128 .f32) (x1 : Vec F S1x512x128 .f32) (x2 : Vec F S1x512x128 .f32) (x3 : Vec F S1x1x512 .f32) : Vec F S1x256x256 .f32 :=
  View.canon [⟨r2_5, k2_pay1 (k2_pay2 (View.ld x1 r2_0)) (k2_pay3 (View.ld x2 r2_0)) (k2_pay4 (View.ld x3 r2_1)) (k2_pay5 i) (View.ld x0 r2_4)⟩,
    ⟨r2_3, k2_pay6 i (View.ld x1 r2_0) (View.ld x2 r2_0) (View.ld x3 r2_1) (View.ld x0 r2_2)⟩]

theorem cover2_4 (p0 : Vec F S1x256x128 .f32) (p1 : Vec F S1x256x128 .f32) (y : S1x256x256.Idx) :
    ∃ pc ∈ ([⟨r2_5, p0⟩, ⟨r2_3, p1⟩] : List (View.Piece (Elt F) S1x256x256 .f32)), y ∈ pc.1.set :=
  View.cover_of_tiled [⟨r2_5, p0⟩, ⟨r2_3, p1⟩] S1x256x128.size (by rfl) y

set_option maxHeartbeats 1000000 in
theorem sound_kernel2 (c : Dev nD) (E : Set ℕ) (i : grid2.Coords) (arg2 : Memref sig .tc .vmem S2x256x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x1x512 .f32) (harg5 : arg5.IsWhole) (arg6 : Memref sig .tc .vmem S1x256x256 .f32) (harg6 : arg6.IsWhole)
    (x0 : Vec F S2x256x128 .f32) (x1 : Vec F S1x512x128 .f32) (x2 : Vec F S1x512x128 .f32) (x3 : Vec F S1x1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 i x0 x1 x2 x3)) -∗ K ⟨⟩))
      ⊢ wp frame (wpE (defs₀ (F := F)) Variants.none c none) E (cc2__attn_body i arg2 harg2 arg3 harg3 arg4 harg4 arg5 harg5 arg6 harg6) K := by
  simp only [cc2__attn_body_eq_skeleton]; unfold cc2__attn_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _ _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (grid2.coords t) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (grid2.coords t) (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! Attention over one segment of the queries. -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x1024x128 := Rect.unit (s := S1x1024x128) ![0, 0, 0] S1x1024x128.size inb_S1x1024x128_S1x1024x128_0_0_0
abbrev r3_1 : Rect S1x1x1024 := Rect.unit (s := S1x1x1024) ![0, 0, 0] S1x1x1024.size inb_S1x1x1024_S1x1x1024_0_0_0
abbrev r3_2 : Rect S2x256x128 := Rect.unit (s := S2x256x128) ![0, 0, 0] S1x256x128.size inb_S2x256x128_S1x256x128_0_0_0
abbrev r3_3 : Rect S1x256x256 := Rect.unit (s := S1x256x256) ![0, 0, 0] S1x256x128.size inb_S1x256x256_S1x256x128_0_0_0
abbrev r3_4 : Rect S2x256x128 := Rect.unit (s := S2x256x128) ![1, 0, 0] S1x256x128.size inb_S2x256x128_S1x256x128_1_0_0
abbrev r3_5 : Rect S1x256x256 := Rect.unit (s := S1x256x256) ![0, 0, 128] S1x256x128.size inb_S1x256x256_S1x256x128_0_0_128

def out3_4 (i : grid3.Coords) (x0 : Vec F S2x256x128 .f32) (x1 : Vec F S1x1024x128 .f32) (x2 : Vec F S1x1024x128 .f32) (x3 : Vec F S1x1x1024 .f32) : Vec F S1x256x256 .f32 :=
  View.canon [⟨r3_5, k3_pay1 (k3_pay2 (View.ld x1 r3_0)) (k3_pay3 (View.ld x2 r3_0)) (k3_pay4 (View.ld x3 r3_1)) (k3_pay5 i) (View.ld x0 r3_4)⟩,
    ⟨r3_3, k3_pay6 i (View.ld x1 r3_0) (View.ld x2 r3_0) (View.ld x3 r3_1) (View.ld x0 r3_2)⟩]

theorem cover3_4 (p0 : Vec F S1x256x128 .f32) (p1 : Vec F S1x256x128 .f32) (y : S1x256x256.Idx) :
    ∃ pc ∈ ([⟨r3_5, p0⟩, ⟨r3_3, p1⟩] : List (View.Piece (Elt F) S1x256x256 .f32)), y ∈ pc.1.set :=
  View.cover_of_tiled [⟨r3_5, p0⟩, ⟨r3_3, p1⟩] S1x256x128.size (by rfl) y

set_option maxHeartbeats 1000000 in
theorem sound_kernel3 (c : Dev nD) (E : Set ℕ) (i : grid3.Coords) (arg2 : Memref sig .tc .vmem S2x256x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1x1024 .f32) (harg5 : arg5.IsWhole) (arg6 : Memref sig .tc .vmem S1x256x256 .f32) (harg6 : arg6.IsWhole)
    (x0 : Vec F S2x256x128 .f32) (x1 : Vec F S1x1024x128 .f32) (x2 : Vec F S1x1024x128 .f32) (x3 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 i x0 x1 x2 x3)) -∗ K ⟨⟩))
      ⊢ wp frame (wpE (defs₀ (F := F)) Variants.none c none) E (cc3__attn_body i arg2 harg2 arg3 harg3 arg4 harg4 arg5 harg5 arg6 harg6) K := by
  simp only [cc3__attn_body_eq_skeleton]; unfold cc3__attn_body_skel
  simp only [k3_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (grid3.coords t) (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (grid3.coords t) (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-! Attention over one segment of the queries. -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
def dflt4_1 : (cfg4.win 1).block.Idx → Elt F (cfg4.win 1).elt := fun _ => Classical.choice inferInstance
def X4_1 (c : Dev nD) (t : Fin cfg4.N) : (cfg4.win 1).block.Idx → Elt F (cfg4.win 1).elt :=
  (cfg4.win 1).fill (cfg4.grid.coords t) dflt4_1 (iblk4 V c 1 t)
theorem xsize4_1 : ∀ t : Fin cfg4.N, ∀ a, (cfg4.win 1).xsize (cfg4.grid.coords t) a = (cfg4.win 1).size a := by decide +kernel
theorem moved4_1 (t : Fin cfg4.N) (j : (cfg4.win 1).block.Idx) : (cfg4.win 1).moved (cfg4.grid.coords t) j = true :=
  ((cfg4.win 1).moved_iff _ j).mpr fun a => by rw [xsize4_1 t a]; exact (j a).isLt
theorem fill4_1 (t : Fin cfg4.N) (d d' : (cfg4.win 1).block.Idx → Elt F (cfg4.win 1).elt) (g) :
    (cfg4.win 1).fill (cfg4.grid.coords t) d g = (cfg4.win 1).fill (cfg4.grid.coords t) d' g := by
  funext j; unfold Pipeline.Window.fill; rw [dif_pos (moved4_1 t j), dif_pos (moved4_1 t j)]
theorem before4_1_of {c : Dev nD} (dat : Dat τ (Elt F) Unit ℕ (UR sig nD τ) ℕ cfg4 c) (hA : dat.A 1 = V c (Pipeline.arrRef spec4 1))
    (hafter : ∀ t, dat.after 1 t = X4_1 V c t) (t : Fin cfg4.N) (d) : dat.before 1 t d = X4_1 V c t :=
  (dat.before_in_eq_fetched 1 rfl (fun _ => rfl)
      (fun t t' h => funext fun a => congrArg (fun n => Pipeline.Clip.of n ((cfg4.win 1).size a) (S6x2048x128.size a)) (congrFun h a))
      (fun t => by rw [hafter]; unfold X4_1; rw [Pipeline.Window.cut_fill]; unfold Dat.blockOf iblk4; rw [hA]; try rfl) t d).trans
    (by unfold Dat.fetched X4_1; rw [fill4_1 t d dflt4_1]; unfold Dat.blockOf iblk4; rw [hA]; try rfl)
def dflt4_2 : (cfg4.win 2).block.Idx → Elt F (cfg4.win 2).elt := fun _ => Classical.choice inferInstance
def X4_2 (c : Dev nD) (t : Fin cfg4.N) : (cfg4.win 2).block.Idx → Elt F (cfg4.win 2).elt :=
  (cfg4.win 2).fill (cfg4.grid.coords t) dflt4_2 (iblk4 V c 2 t)
theorem xsize4_2 : ∀ t : Fin cfg4.N, ∀ a, (cfg4.win 2).xsize (cfg4.grid.coords t) a = (cfg4.win 2).size a := by decide +kernel
theorem moved4_2 (t : Fin cfg4.N) (j : (cfg4.win 2).block.Idx) : (cfg4.win 2).moved (cfg4.grid.coords t) j = true :=
  ((cfg4.win 2).moved_iff _ j).mpr fun a => by rw [xsize4_2 t a]; exact (j a).isLt
theorem fill4_2 (t : Fin cfg4.N) (d d' : (cfg4.win 2).block.Idx → Elt F (cfg4.win 2).elt) (g) :
    (cfg4.win 2).fill (cfg4.grid.coords t) d g = (cfg4.win 2).fill (cfg4.grid.coords t) d' g := by
  funext j; unfold Pipeline.Window.fill; rw [dif_pos (moved4_2 t j), dif_pos (moved4_2 t j)]
theorem before4_2_of {c : Dev nD} (dat : Dat τ (Elt F) Unit ℕ (UR sig nD τ) ℕ cfg4 c) (hA : dat.A 2 = V c (Pipeline.arrRef spec4 2))
    (hafter : ∀ t, dat.after 2 t = X4_2 V c t) (t : Fin cfg4.N) (d) : dat.before 2 t d = X4_2 V c t :=
  (dat.before_in_eq_fetched 2 rfl (fun _ => rfl)
      (fun t t' h => funext fun a => congrArg (fun n => Pipeline.Clip.of n ((cfg4.win 2).size a) (S6x2048x128.size a)) (congrFun h a))
      (fun t => by rw [hafter]; unfold X4_2; rw [Pipeline.Window.cut_fill]; unfold Dat.blockOf iblk4; rw [hA]; try rfl) t d).trans
    (by unfold Dat.fetched X4_2; rw [fill4_2 t d dflt4_2]; unfold Dat.blockOf iblk4; rw [hA]; try rfl)
def dflt4_3 : (cfg4.win 3).block.Idx → Elt F (cfg4.win 3).elt := fun _ => Classical.choice inferInstance
def X4_3 (c : Dev nD) (t : Fin cfg4.N) : (cfg4.win 3).block.Idx → Elt F (cfg4.win 3).elt :=
  (cfg4.win 3).fill (cfg4.grid.coords t) dflt4_3 (iblk4 V c 3 t)
theorem xsize4_3 : ∀ t : Fin cfg4.N, ∀ a, (cfg4.win 3).xsize (cfg4.grid.coords t) a = (cfg4.win 3).size a := by decide +kernel
theorem moved4_3 (t : Fin cfg4.N) (j : (cfg4.win 3).block.Idx) : (cfg4.win 3).moved (cfg4.grid.coords t) j = true :=
  ((cfg4.win 3).moved_iff _ j).mpr fun a => by rw [xsize4_3 t a]; exact (j a).isLt
theorem fill4_3 (t : Fin cfg4.N) (d d' : (cfg4.win 3).block.Idx → Elt F (cfg4.win 3).elt) (g) :
    (cfg4.win 3).fill (cfg4.grid.coords t) d g = (cfg4.win 3).fill (cfg4.grid.coords t) d' g := by
  funext j; unfold Pipeline.Window.fill; rw [dif_pos (moved4_3 t j), dif_pos (moved4_3 t j)]
theorem before4_3_of {c : Dev nD} (dat : Dat τ (Elt F) Unit ℕ (UR sig nD τ) ℕ cfg4 c) (hA : dat.A 3 = V c (Pipeline.arrRef spec4 3))
    (hafter : ∀ t, dat.after 3 t = X4_3 V c t) (t : Fin cfg4.N) (d) : dat.before 3 t d = X4_3 V c t :=
  (dat.before_in_eq_fetched 3 rfl (fun _ => rfl)
      (fun t t' h => funext fun a => congrArg (fun n => Pipeline.Clip.of n ((cfg4.win 3).size a) (S8x1x2048.size a)) (congrFun h a))
      (fun t => by rw [hafter]; unfold X4_3; rw [Pipeline.Window.cut_fill]; unfold Dat.blockOf iblk4; rw [hA]; try rfl) t d).trans
    (by unfold Dat.fetched X4_3; rw [fill4_3 t d dflt4_3]; unfold Dat.blockOf iblk4; rw [hA]; try rfl)

abbrev r4_0 : Rect S1x1536x128 := Rect.unit (s := S1x1536x128) ![0, 0, 0] S1x1536x128.size inb_S1x1536x128_S1x1536x128_0_0_0
abbrev r4_1 : Rect S1x1x1536 := Rect.unit (s := S1x1x1536) ![0, 0, 0] S1x1x1536.size inb_S1x1x1536_S1x1x1536_0_0_0
abbrev r4_2 : Rect S2x256x128 := Rect.unit (s := S2x256x128) ![0, 0, 0] S1x256x128.size inb_S2x256x128_S1x256x128_0_0_0
abbrev r4_3 : Rect S1x256x256 := Rect.unit (s := S1x256x256) ![0, 0, 0] S1x256x128.size inb_S1x256x256_S1x256x128_0_0_0
abbrev r4_4 : Rect S2x256x128 := Rect.unit (s := S2x256x128) ![1, 0, 0] S1x256x128.size inb_S2x256x128_S1x256x128_1_0_0
abbrev r4_5 : Rect S1x256x256 := Rect.unit (s := S1x256x256) ![0, 0, 128] S1x256x128.size inb_S1x256x256_S1x256x128_0_0_128

def out4_4 (i : grid4.Coords) (x0 : Vec F S2x256x128 .f32) (x1 : Vec F S1x1536x128 .f32) (x2 : Vec F S1x1536x128 .f32) (x3 : Vec F S1x1x1536 .f32) : Vec F S1x256x256 .f32 :=
  View.canon [⟨r4_5, k4_pay1 (k4_pay2 (View.ld x1 r4_0)) (k4_pay3 (View.ld x2 r4_0)) (k4_pay4 (View.ld x3 r4_1)) (k4_pay5 i) (View.ld x0 r4_4)⟩,
    ⟨r4_3, k4_pay6 i (View.ld x1 r4_0) (View.ld x2 r4_0) (View.ld x3 r4_1) (View.ld x0 r4_2)⟩]

theorem cover4_4 (p0 : Vec F S1x256x128 .f32) (p1 : Vec F S1x256x128 .f32) (y : S1x256x256.Idx) :
    ∃ pc ∈ ([⟨r4_5, p0⟩, ⟨r4_3, p1⟩] : List (View.Piece (Elt F) S1x256x256 .f32)), y ∈ pc.1.set :=
  View.cover_of_tiled [⟨r4_5, p0⟩, ⟨r4_3, p1⟩] S1x256x128.size (by rfl) y

set_option maxHeartbeats 1000000 in
theorem sound_kernel4 (c : Dev nD) (E : Set ℕ) (i : grid4.Coords) (arg2 : Memref sig .tc .vmem S2x256x128 .f32) (harg2 : arg2.IsWhole) (arg3 : Memref sig .tc .vmem S1x1536x128 .f32) (harg3 : arg3.IsWhole) (arg4 : Memref sig .tc .vmem S1x1536x128 .f32) (harg4 : arg4.IsWhole) (arg5 : Memref sig .tc .vmem S1x1x1536 .f32) (harg5 : arg5.IsWhole) (arg6 : Memref sig .tc .vmem S1x256x256 .f32) (harg6 : arg6.IsWhole)
    (x0 : Vec F S2x256x128 .f32) (x1 : Vec F S1x1536x128 .f32) (x2 : Vec F S1x1536x128 .f32) (x3 : Vec F S1x1x1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out4_4 i x0 x1 x2 x3)) -∗ K ⟨⟩))
      ⊢ wp frame (wpE (defs₀ (F := F)) Variants.none c none) E (cc4__attn_body i arg2 harg2 arg3 harg3 arg4 harg4 arg5 harg5 arg6 harg6) K := by
  simp only [cc4__attn_body_eq_skeleton]; unfold cc4__attn_body_skel
  simp only [k4_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _ _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => X4_1 V c t
    | ⟨2, _⟩ => X4_2 V c t
    | ⟨3, _⟩ => X4_3 V c t
    | ⟨4, _⟩ => out4_4 (grid4.coords t) (iblk4 V c 0 t) (X4_1 V c t) (X4_2 V c t) (X4_3 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = X4_1 V c t := by dsimp only [dat4]
theorem after4_2 (c : Dev nD) (t : Fin cfg4.N) : (dat4 V c).after 2 t = X4_2 V c t := by dsimp only [dat4]
theorem after4_3 (c : Dev nD) (t : Fin cfg4.N) : (dat4 V c).after 3 t = X4_3 V c t := by dsimp only [dat4]
theorem after4_4 (c : Dev nD) (t : Fin cfg4.N) : (dat4 V c).after 4 t = out4_4 (grid4.coords t) (iblk4 V c 0 t) (X4_1 V c t) (X4_2 V c t) (X4_3 V c t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = X4_1 V c t :=
  before4_1_of V (dat4 V c) (A_eq4 V c 1) (after4_1 V c) t d
theorem before4_2 (c : Dev nD) (t : Fin cfg4.N) (d) : (dat4 V c).before 2 t d = X4_2 V c t :=
  before4_2_of V (dat4 V c) (A_eq4 V c 2) (after4_2 V c) t d
theorem before4_3 (c : Dev nD) (t : Fin cfg4.N) (d) : (dat4 V c).before 3 t d = X4_3 V c t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (X4_1 V c t) (X4_2 V c t) (X4_3 V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-! Attention over one segment of the queries. -/

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1x2048x128 := Rect.unit (s := S1x2048x128) ![0, 0, 0] S1x2048x128.size inb_S1x2048x128_S1x2048x128_0_0_0
abbrev r5_1 : Rect S1x1x2048 := Rect.unit (s := S1x1x2048) ![0, 0, 0] S1x1x2048.size inb_S1x1x2048_S1x1x2048_0_0_0
abbrev r5_2 : Rect S2x256x128 := Rect.unit (s := S2x256x128) ![0, 0, 0] S1x256x128.size inb_S2x256x128_S1x256x128_0_0_0
abbrev r5_3 : Rect S1x256x256 := Rect.unit (s := S1x256x256) ![0, 0, 0] S1x256x128.size inb_S1x256x256_S1x256x128_0_0_0
abbrev r5_4 : Rect S2x256x128 := Rect.unit (s := S2x256x128) ![1, 0, 0] S1x256x128.size inb_S2x256x128_S1x256x128_1_0_0
abbrev r5_5 : Rect S1x256x256 := Rect.unit (s := S1x256x256) ![0, 0, 128] S1x256x128.size inb_S1x256x256_S1x256x128_0_0_128

def out5_4 (i : grid5.Coords) (x0 : Vec F S2x256x128 .f32) (x1 : Vec F S1x2048x128 .f32) (x2 : Vec F S1x2048x128 .f32) (x3 : Vec F S1x1x2048 .f32) : Vec F S1x256x256 .f32 :=
  View.canon [⟨r5_5, k5_pay1 (k5_pay2 (View.ld x1 r5_0)) (k5_pay3 (View.ld x2 r5_0)) (k5_pay4 (View.ld x3 r5_1)) (k5_pay5 i) (View.ld x0 r5_4)⟩,
    ⟨r5_3, k5_pay6 i (View.ld x1 r5_0) (View.ld x2 r5_0) (View.ld x3 r5_1) (View.ld x0 r5_2)⟩]

theorem cover5_4 (p0 : Vec F S1x256x128 .f32) (p1 : Vec F S1x256x128 .f32) (y : S1x256x256.Idx) :
    ∃ pc ∈ ([⟨r5_5, p0⟩, ⟨r5_3, p1⟩] : List (View.Piece (Elt F) S1x256x256 .f32)), y ∈ pc.1.set :=
  View.cover_of_tiled [⟨r5_5, p0⟩, ⟨r5_3, p1⟩] S1x256x128.size (by rfl) y

set_option maxHeartbeats 1000000 in
theorem sound_kernel5 (c : Dev nD) (E : Set ℕ) (i : grid5.Coords) (arg2 : Memref sig .tc .vmem S2x256x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x256x256 .f32) (harg6 : arg6.IsWhole)
    (x0 : Vec F S2x256x128 .f32) (x1 : Vec F S1x2048x128 .f32) (x2 : Vec F S1x2048x128 .f32) (x3 : Vec F S1x1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out5_4 i x0 x1 x2 x3)) -∗ K ⟨⟩))
      ⊢ wp frame (wpE (defs₀ (F := F)) Variants.none c none) E (cc5__attn_body i arg2 harg2 arg3 harg3 arg4 harg4 arg5 harg5 arg6 harg6) K := by
  simp only [cc5__attn_body_eq_skeleton]; unfold cc5__attn_body_skel
  simp only [k5_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _ _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (grid5.coords t) (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (grid5.coords t) (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Cert.KernelIdeal.Whole

end
-- ==== Proof.WholeRun.lean ====
module

public import proofs.«01_k».proof.Proof.RouteBody
public import proofs.«01_k».proof.Proof.ProjBody
public import proofs.«01_k».proof.Proof.AttBody

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_cst, main_v1, main_c, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v5, main_cst_0, main_v6, main_v7, main_cst_1, main_v8, main_v9, main_cst_2, main_v10, main_v11, main_cst_3, main_v12, main_v13, main_cst_4, main_v14, main_v15, main_v16, main_v17, main_v18, main_v19, main_v20, main_v21, main_v22, main_v23, main_v24]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v26, main_v27]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps6_fresh : (hostOps6 : List (HloOp τ sig (Elt F))).Forall fun op => op.fresh = ∅ := by
  simp only [List.Forall]; repeat' constructor
abbrev hostOps6_W : List (Ref sig .tc) := [main_v32]
theorem hostOps6_writes : (hostOps6 : List (HloOp τ sig (Elt F))).Forall fun op => op.writes ⊆ (hostOps6_W.map (Proc.devRef (τ := τ) .tc)).toFinset :=
  StableHlo.forall_writes_sub_of_map rfl
theorem hostOps6_args : ∀ a ∈ argRefs, a ∉ hostOps6_W := ListAll.forall_mem_of_all_decide (by decide +kernel)

theorem hostOps7_fresh : (hostOps7 : List (HloOp τ sig (Elt F))).Forall fun op => op.fresh = ∅ := by
  simp only [List.Forall]; repeat' constructor
abbrev hostOps7_W : List (Ref sig .tc) := [main_v34, main_v35]
theorem hostOps7_writes : (hostOps7 : List (HloOp τ sig (Elt F))).Forall fun op => op.writes ⊆ (hostOps7_W.map (Proc.devRef (τ := τ) .tc)).toFinset :=
  StableHlo.forall_writes_sub_of_map rfl
theorem hostOps7_args : ∀ a ∈ argRefs, a ∉ hostOps7_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem W8_of (c : Dev nD) (r : Ref sig .tc) (h : ∀ w : Fin cfg4.W, Pipeline.arrRef spec4 w = r → (cfg4.win w).isOut = false) :
    W8 m ρ c (Proc.devRef .tc r) = W7 m ρ c (Proc.devRef .tc r) := by
  by_cases hw : ∃ w : Fin cfg4.W, Pipeline.arrRef spec4 w = r
  · obtain ⟨w, rfl⟩ := hw
    exact (W8_arr m ρ c w).trans (((dat4 (V7 m ρ) c).arrAt_in w (h w rfl) _).trans (A_eq4 (V7 m ρ) c w))
  · exact W8_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn4 a ha)).trans (W7_args m ρ c a ha)
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
theorem W9_of (c : Dev nD) (r : Ref sig .tc) (h : ∀ w : Fin cfg5.W, Pipeline.arrRef spec5 w = r → (cfg5.win w).isOut = false) :
    W9 m ρ c (Proc.devRef .tc r) = W8 m ρ c (Proc.devRef .tc r) := by
  by_cases hw : ∃ w : Fin cfg5.W, Pipeline.arrRef spec5 w = r
  · obtain ⟨w, rfl⟩ := hw
    exact (W9_arr m ρ c w).trans (((dat5 (V8 m ρ) c).arrAt_in w (h w rfl) _).trans (A_eq5 (V8 m ρ) c w))
  · exact W9_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn5 a ha)).trans (W8_args m ρ c a ha)
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

abbrev W10 : Dev nD → Valuation τ sig (Elt F) := fun c => StableHlo.after hostOps6 (W9 m ρ c)
theorem W10_of (c : Dev nD) (r : Ref sig .tc) (h : r ∉ hostOps6_W) : W10 m ρ c (Proc.devRef .tc r) = W9 m ρ c (Proc.devRef .tc r) :=
  StableHlo.after_of_writes_sub hostOps6 _ hostOps6_writes h
theorem W10_args (c : Dev nD) : ∀ a ∈ argRefs, W10 m ρ c (Proc.devRef .tc a) = m ((c : Thread nD τ).loc a) :=
  fun a ha => (W10_of m ρ c a (hostOps6_args a ha)).trans (W9_args m ρ c a ha)
abbrev V10 : (c : Dev nD) → (b : Ref sig .tc) → Buf (Elt F) ((c : Thread nD τ).loc b) := fun c b => W10 m ρ c b
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
theorem W11_of (c : Dev nD) (r : Ref sig .tc) (h : ∀ w : Fin cfg6.W, Pipeline.arrRef spec6 w = r → (cfg6.win w).isOut = false) :
    W11 m ρ c (Proc.devRef .tc r) = W10 m ρ c (Proc.devRef .tc r) := by
  by_cases hw : ∃ w : Fin cfg6.W, Pipeline.arrRef spec6 w = r
  · obtain ⟨w, rfl⟩ := hw
    exact (W11_arr m ρ c w).trans (((dat6 (V10 m ρ) c).arrAt_in w (h w rfl) _).trans (A_eq6 (V10 m ρ) c w))
  · exact W11_of_ne m ρ c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn6 a ha)).trans (W10_args m ρ c a ha)
abbrev V11 : (c : Dev nD) → (b : Ref sig .tc) → Buf (Elt F) ((c : Thread nD τ).loc b) := fun c b => W11 m ρ c b
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

abbrev W12 : Dev nD → Valuation τ sig (Elt F) := fun c => StableHlo.after hostOps7 (W11 m ρ c)
theorem W12_of (c : Dev nD) (r : Ref sig .tc) (h : r ∉ hostOps7_W) : W12 m ρ c (Proc.devRef .tc r) = W11 m ρ c (Proc.devRef .tc r) :=
  StableHlo.after_of_writes_sub hostOps7 _ hostOps7_writes h
theorem W12_args (c : Dev nD) : ∀ a ∈ argRefs, W12 m ρ c (Proc.devRef .tc a) = m ((c : Thread nD τ).loc a) :=
  fun a ha => (W12_of m ρ c a (hostOps7_args a ha)).trans (W11_args m ρ c a ha)

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)
theorem W12_main_arg4 (c : Dev nD) : W12 m ρ c (Proc.devRef .tc main_arg4) = m ((c : Thread nD τ).loc main_arg4) :=
  W12_args m ρ c main_arg4 (by decide)
theorem W12_main_arg5 (c : Dev nD) : W12 m ρ c (Proc.devRef .tc main_arg5) = m ((c : Thread nD τ).loc main_arg5) :=
  W12_args m ρ c main_arg5 (by decide)

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
  | ⟨5, _⟩ => fun c => dat5 (V8 m ρ) c
  | ⟨6, _⟩ => fun c => dat6 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c); unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    iintro H0
    ihave H := hout0 (V1 m ρ) c $$ H0
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) (A_eq4 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) (A_eq5 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) (A_eq6 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ),
    .region (reg5 m ρ),
    .host (hseg hostOps6 hostOps6_sub hostOps6_fresh (W9 m ρ)),
    .region (reg6 m ρ),
    .host (hseg hostOps7 hostOps7_sub hostOps7_fresh (W11 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole run: every buffer outside the scoped ones ends at the last boundary contents. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- The run ends with the arguments as they were launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c),
       (h.1 c _ (mem_uc main_arg3 (by decide))).trans (W12_main_arg3 m ρ c),
       (h.1 c _ (mem_uc main_arg4 (by decide))).trans (W12_main_arg4 m ρ c),
       (h.1 c _ (mem_uc main_arg5 (by decide))).trans (W12_main_arg5 m ρ c)⟩, h.2⟩) (run_all m ρ)

end Cert.KernelIdeal.Whole

end
-- ==== Proof.Kept.lean ====
module

public import proofs.«01_k».proof.Proof.WholeRun

/-! The buffers that later steps read and the steps between leave alone. -/

@[expose] public section
set_option maxRecDepth 16384
noncomputable section
namespace Cert.KernelIdeal.Kept
open Cert.KernelIdeal Cert.KernelIdeal.Gen Cert.KernelIdeal.Whole Idealize.ShloMosaic Idealize.ShloMosaic.TcCoe Idealize.SL.Sem

variable (m : (ℓ : Loc nD τ sig) → Buf (Elt Ideal) ℓ) (ρ : Dev nD → PrngReg) (c : Dev nD)

/-- What the router leaves. -/
abbrev routed : List (Ref sig .tc) := [main_v4_0, main_v4_1, main_v4_2, main_v4_3]
/-- What the attention reads besides, and what its segments leave. -/
abbrev read2 : List (Ref sig .tc) := [main_v4_0, main_v4_1, main_v4_3, main_v25_0, main_v25_1, main_v25_2, main_v27]
abbrev read3 : List (Ref sig .tc) := main_v28 :: read2
abbrev read4 : List (Ref sig .tc) := main_v29 :: read3
abbrev read5 : List (Ref sig .tc) := main_v30 :: read4

theorem in1 : ∀ a ∈ routed, ∀ w : Fin cfg1.W, Pipeline.arrRef spec1 w = a → (cfg1.win w).isOut = false := by decide +kernel
theorem in2 : ∀ a ∈ read2, ∀ w : Fin cfg2.W, Pipeline.arrRef spec2 w = a → (cfg2.win w).isOut = false := by decide +kernel
theorem in3 : ∀ a ∈ read3, ∀ w : Fin cfg3.W, Pipeline.arrRef spec3 w = a → (cfg3.win w).isOut = false := by decide +kernel
theorem in4 : ∀ a ∈ read4, ∀ w : Fin cfg4.W, Pipeline.arrRef spec4 w = a → (cfg4.win w).isOut = false := by decide +kernel
theorem in5 : ∀ a ∈ read5, ∀ w : Fin cfg5.W, Pipeline.arrRef spec5 w = a → (cfg5.win w).isOut = false := by decide +kernel
theorem in6 : ∀ a ∈ routed, ∀ w : Fin cfg6.W, Pipeline.arrRef spec6 w = a → (cfg6.win w).isOut = false := by decide +kernel

theorem routed_at4 (a : Ref sig .tc) (h : a ∈ routed) : W4 m ρ c (Proc.devRef .tc a) = W2 m ρ c (Proc.devRef .tc a) :=
  (W4_of m ρ c a (in1 a h)).trans (W3_of m ρ c a ((by decide +kernel : ∀ a ∈ routed, a ∉ hostOps1_W) a h))

theorem at6 (a : Ref sig .tc) (h : a ∈ read2) : W6 m ρ c (Proc.devRef .tc a) = W5 m ρ c (Proc.devRef .tc a) := W6_of m ρ c a (in2 a h)
theorem at7 (a : Ref sig .tc) (h : a ∈ read2) : W7 m ρ c (Proc.devRef .tc a) = W5 m ρ c (Proc.devRef .tc a) :=
  (W7_of m ρ c a (in3 a (List.mem_cons_of_mem _ h))).trans (at6 m ρ c a h)
theorem at8 (a : Ref sig .tc) (h : a ∈ read2) : W8 m ρ c (Proc.devRef .tc a) = W5 m ρ c (Proc.devRef .tc a) :=
  (W8_of m ρ c a (in4 a (List.mem_cons_of_mem _ (List.mem_cons_of_mem _ h)))).trans (at7 m ρ c a h)
theorem at9 (a : Ref sig .tc) (h : a ∈ read2) : W9 m ρ c (Proc.devRef .tc a) = W5 m ρ c (Proc.devRef .tc a) :=
  (W9_of m ρ c a (in5 a (List.mem_cons_of_mem _ (List.mem_cons_of_mem _ (List.mem_cons_of_mem _ h))))).trans (at8 m ρ c a h)

/-- The selections and weights the output projection reads are the router's. -/
theorem routed_at10 (a : Ref sig .tc) (h : a ∈ [main_v4_0, main_v4_1, main_v4_3]) : W10 m ρ c (Proc.devRef .tc a) = W2 m ρ c (Proc.devRef .tc a) :=
  (W10_of m ρ c a ((by decide +kernel : ∀ a ∈ [main_v4_0, main_v4_1, main_v4_3], a ∉ hostOps6_W) a h)).trans
    ((at9 m ρ c a ((by decide +kernel : ∀ a ∈ [main_v4_0, main_v4_1, main_v4_3], a ∈ read2) a h)).trans
      ((W5_of m ρ c a ((by decide +kernel : ∀ a ∈ [main_v4_0, main_v4_1, main_v4_3], a ∉ hostOps2_W) a h)).trans
        (routed_at4 m ρ c a ((by decide +kernel : ∀ a ∈ [main_v4_0, main_v4_1, main_v4_3], a ∈ routed) a h))))

theorem aux_at11 : W11 m ρ c (Proc.devRef .tc main_v4_3) = W2 m ρ c (Proc.devRef .tc main_v4_3) :=
  (W11_of m ρ c main_v4_3 (in6 _ (by decide))).trans (routed_at10 m ρ c main_v4_3 (by decide))

theorem seg1_at9 : W9 m ρ c (Proc.devRef .tc main_v28) = W6 m ρ c (Proc.devRef .tc main_v28) :=
  (W9_of m ρ c main_v28 (in5 _ (by decide))).trans ((W8_of m ρ c main_v28 (in4 _ (by decide))).trans (W7_of m ρ c main_v28 (in3 _ (by decide))))

theorem seg2_at9 : W9 m ρ c (Proc.devRef .tc main_v29) = W7 m ρ c (Proc.devRef .tc main_v29) :=
  (W9_of m ρ c main_v29 (in5 _ (by decide))).trans (W8_of m ρ c main_v29 (in4 _ (by decide)))

theorem seg3_at9 : W9 m ρ c (Proc.devRef .tc main_v30) = W8 m ρ c (Proc.devRef .tc main_v30) := W9_of m ρ c main_v30 (in5 _ (by decide))

end Cert.KernelIdeal.Kept
end
-- ==== Proof.HostValue.lean ====
module

public import proofs.«01_k».proof.Proof.WholeRun
public import proofs.«01_k».proof.Proof.Laws
public import Idealize.ShloMosaic.Lib.Pipeline.ValueKit
public import Idealize.ShloMosaic.Lib.Routing.OpsSet

/-! What the kernel's operations between the pallas calls leave in the buffers. -/

@[expose] public section
set_option maxRecDepth 16384
noncomputable section
namespace Cert.KernelIdeal.Host
open Cert.KernelIdeal Cert.KernelIdeal.Gen Cert.KernelIdeal.Whole Idealize.ShloMosaic Idealize.ShloMosaic.TcCoe Idealize.SL.Sem Idealize.ShloMosaic.StableHlo
open Cert.Form

/-- Update `(e', g')` of the padding lands at row `e'`, column `g'`. -/
theorem pad_lands (idx : IVec S1 32) (hidx : idx (ix1 0) = 0#32) (e' e : Fin 1024) (g' : Fin 6) (g : Fin 128) :
    scatter_S1024x128_S1_S1024x6_01_n_1_0.resultIdx? (ix2 e' g') idx = some (ix2 e g) ↔ e' = e ∧ g'.val = g.val := by
  have h0 : scatter_S1024x128_S1_S1024x6_01_n_1_0.window (ix2 e' g') 0 = e'.val := rfl
  have h1 : scatter_S1024x128_S1_S1024x6_01_n_1_0.window (ix2 e' g') 1 = g'.val := rfl
  have s0 : scatter_S1024x128_S1_S1024x6_01_n_1_0.start (ix2 e' g') idx 0 = 0 := rfl
  have s1 : scatter_S1024x128_S1_S1024x6_01_n_1_0.start (ix2 e' g') idx 1 = 0 := by
    show (idx (ScatterDims.siIdx _ _ _)).toInt = 0
    refine (congrArg BitVec.toInt ((congrArg idx ?_).trans hidx)).trans rfl
    funext b
    match b with
    | ⟨0, _⟩ => exact Subsingleton.elim (α := Fin 1) _ _
  refine (Routing.resultIdx?_ix2 scatter_S1024x128_S1_S1024x6_01_n_1_0 (ix2 e' g') idx e g).trans ?_
  rw [h0, h1, s0, s1, Fin.ext_iff]
  omega

theorem pad_val (x : FVec Ideal S1024x128 .f32) (idx : IVec S1 32) (hidx : idx (ix1 0) = 0#32) (W : FVec Ideal S1024x6 .f32) (e : Fin 1024) (g : Fin 6) :
    Host.scatter scatter_S1024x128_S1_S1024x6_01_n_1_0 (fun _ b => b) x idx W (ix2 e ⟨g.val, by omega⟩) = W (ix2 e g) := by
  refine Routing.scatter_set_hit _ x idx W _ _ (fun k hk => ?_) (ix2 e g) ((pad_lands idx hidx e e g _).mpr ⟨rfl, rfl⟩)
  have hk' : scatter_S1024x128_S1_S1024x6_01_n_1_0.resultIdx? (ix2 (k 0) (k 1)) idx = some (ix2 e ⟨g.val, by omega⟩) := by rw [← eq_ix2]; exact hk
  obtain ⟨h0, h1⟩ := (pad_lands idx hidx _ _ _ _).mp hk'
  rw [eq_ix2 k, h0, Fin.ext h1]

variable (V : Valuation τ sig (Elt Ideal))

theorem v0_after : after hostOps0 V (Proc.devRef .tc main_v0) = shapeCast S2048x1024 (V (Proc.devRef .tc main_arg0) : FVec Ideal S1x2048x1024 .f32) shapeCasts_S1x2048x1024_S2048x1024 := by
  after_results_simp
  rfl

theorem v3_after : after hostOps0 V (Proc.devRef .tc main_v3) = Host.scatter scatter_S1024x128_S1_S1024x6_01_n_1_0 (fun _ b => b) (broadcastInDim S1024x128 ![] bcast_S_S1024x128 (constant (F := Ideal) S_ .f32 0x00000000#32) : FVec Ideal S1024x128 .f32) (broadcastInDim S1 ![] bcast_S_S1 (constantI S_ 32 0#32)) (V (Proc.devRef .tc main_arg4) : FVec Ideal S1024x6 .f32) := by
  after_results_simp

theorem v27_after (g : Fin 8) (t : Fin 2048) : (after hostOps2 V (Proc.devRef .tc main_v27) : FVec Ideal S8x1x2048 .f32) (ix3 g 0 t) = (V (Proc.devRef .tc main_v4_2) : FVec Ideal S2048x8 .f32) (ix2 t g) := by
  have e : after hostOps2 V (Proc.devRef .tc main_v27) = shapeCast S8x1x2048 (transpose S8x2048 [1, 0] (V (Proc.devRef .tc main_v4_2) : FVec Ideal S2048x8 .f32) transposes_S2048x8_S8x2048_1_0) shapeCasts_S8x2048_S8x1x2048 := by
    after_results_simp
    rfl
  rw [e]
  generalize (V (Proc.devRef .tc main_v4_2) : FVec Ideal S2048x8 .f32) = M
  pointwise

theorem v32_after : after hostOps6 V (Proc.devRef .tc main_v32) = concatenate S6x2048x256 1 [⟨S6x512x256, (V (Proc.devRef .tc main_v28) : FVec Ideal S6x512x256 .f32)⟩, ⟨S6x512x256, (V (Proc.devRef .tc main_v29) : FVec Ideal S6x512x256 .f32)⟩, ⟨S6x512x256, (V (Proc.devRef .tc main_v30) : FVec Ideal S6x512x256 .f32)⟩, ⟨S6x512x256, (V (Proc.devRef .tc main_v31) : FVec Ideal S6x512x256 .f32)⟩] concatenates_S6x512x256_S6x512x256_S6x512x256_S6x512x256_S6x2048x256_d1 := by
  after_results_simp
  rfl

theorem joined (A B C D : FVec Ideal S6x512x256 .f32) (m : Fin 6) (r : Fin 2048) (k : Fin 256) :
    concatenate S6x2048x256 1 [⟨S6x512x256, A⟩, ⟨S6x512x256, B⟩, ⟨S6x512x256, C⟩, ⟨S6x512x256, D⟩] concatenates_S6x512x256_S6x512x256_S6x512x256_S6x512x256_S6x2048x256_d1 (ix3 m r k)
      = if h : r.val < 512 then A (ix3 m ⟨r.val, h⟩ k) else if h : r.val < 1024 then B (ix3 m ⟨r.val - 512, by omega⟩ k)
        else if h : r.val < 1536 then C (ix3 m ⟨r.val - 1024, by omega⟩ k) else D (ix3 m ⟨r.val - 1536, by omega⟩ k) := by
  pointwise
  simp only [Nat.sub_sub]
  have h2 : r.val - 512 < 512 ↔ r.val < 1024 := by omega
  have h3 : r.val - (512 + 512) < 512 ↔ r.val < 1536 := by omega
  by_cases c1 : r.val < 512
  · rw [dif_pos c1, dif_pos c1]
  · rw [dif_neg c1, dif_neg c1]
    by_cases c2 : r.val < 1024
    · rw [dif_pos (h2.mpr c2), dif_pos c2]
    · rw [dif_neg (fun h => c2 (h2.mp h)), dif_neg c2]
      by_cases c3 : r.val < 1536
      · rw [dif_pos (h3.mpr c3), dif_pos c3]
      · rw [dif_neg (fun h => c3 (h3.mp h)), dif_neg c3]

theorem v34_after : after hostOps7 V (Proc.devRef .tc main_v34) = shapeCast S1x2048x1024 (V (Proc.devRef .tc main_v33) : FVec Ideal S2048x1024 .f32) shapeCasts_S2048x1024_S1x2048x1024 := by
  after_results_simp
  rfl

theorem v35_after : after hostOps7 V (Proc.devRef .tc main_v35) = shapeCast S_ (V (Proc.devRef .tc main_v4_3) : FVec Ideal S1x1 .f32) shapeCasts_S1x1_S_ := by
  after_results_simp
  rfl

theorem rows_cast (X : FVec Ideal S1x2048x1024 .f32) (s : Fin 2048) (e : Fin 1024) : shapeCast S2048x1024 X shapeCasts_S1x2048x1024_S2048x1024 (ix2 s e) = X (ix3 0 s e) := by
  pointwise

theorem out_cast (X : FVec Ideal S2048x1024 .f32) (s : Fin 2048) (e : Fin 1024) : shapeCast S1x2048x1024 X shapeCasts_S2048x1024_S1x2048x1024 (ix3 0 s e) = X (ix2 s e) := by
  pointwise

theorem aux_cast (X : FVec Ideal S1x1 .f32) : shapeCast S_ X shapeCasts_S1x1_S_ ix0 = X (ix2 0 0) := by
  pointwise

end Cert.KernelIdeal.Host
end
-- ==== Proof.Tables.lean ====
module

public import proofs.«01_k».proof.Proof.WholeRun
public import proofs.«01_k».proof.Proof.Laws
public import Idealize.ShloMosaic.Lib.Pipeline.ValueKit
public import Idealize.ShloMosaic.Lib.Routing.OpsSet

/-! The position tables: cosine and sine of the angles are real numbers. -/

@[expose] public section
set_option maxRecDepth 16384
noncomputable section
namespace Cert.KernelIdeal.Host
open Cert.KernelIdeal Cert.KernelIdeal.Gen Cert.KernelIdeal.Whole Idealize.ShloMosaic Idealize.ShloMosaic.TcCoe Idealize.SL.Sem Idealize.ShloMosaic.StableHlo
open Cert.Form

/-- The angles, position by position and coordinate by coordinate. -/
def angle : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- The angles laid twice side by side. -/
def angles : FVec Ideal S2048x128 .f32 := concatenate S2048x128 1 [⟨S2048x64, angle⟩, ⟨S2048x64, angle⟩] concatenates_S2048x64_S2048x64_S2048x128_d1

theorem lit_base : Ideal.ofBits .f32 1176256512#32 = ((10000 : ℝ) : EReal) := by
  simp [Ideal.ofBits, Ideal.ieee, -EReal.coe_mul]; norm_num

theorem lit_two : Ideal.ofBits .f32 1073741824#32 = ((2 : ℝ) : EReal) := by
  simp [Ideal.ofBits, Ideal.ieee, -EReal.coe_mul]; norm_num

theorem lit_width : Ideal.ofBits .f32 1124073472#32 = ((128 : ℝ) : EReal) := by
  simp [Ideal.ofBits, Ideal.ieee, -EReal.coe_mul]; norm_num

theorem freq_real (a b : BitVec 32) : IsReal (FloatOps.sitofp (F := Ideal) FTy.f32 a *
      Ideal.div 1 (Ideal.pow (Ideal.ofBits FTy.f32 1176256512#32)
          (Ideal.div (Ideal.ofBits FTy.f32 1073741824#32 * FloatOps.sitofp (F := Ideal) FTy.f32 b) (Ideal.ofBits FTy.f32 1124073472#32)))) := by
  rw [lit_base, lit_two, lit_width]
  show IsReal ((((a.toInt : ℝ) : ℝ) : EReal) * Ideal.div 1 (Ideal.pow ((10000 : ℝ) : EReal) (Ideal.div (((2 : ℝ) : EReal) * (((b.toInt : ℝ) : ℝ) : EReal)) ((128 : ℝ) : EReal))))
  rw [← EReal.coe_mul, Ideal.div_coe (by norm_num), ← EReal.coe_mul]
  show IsReal (((a.toInt : ℝ) : EReal) * Ideal.div 1 ((Real.rpow 10000 _ : ℝ) : EReal))
  have hp : ∀ y : ℝ, Real.rpow 10000 y ≠ 0 := fun y => (Real.rpow_pos_of_pos (by norm_num) y).ne'
  rw [Ideal.div_coe (hp _), one_mul]
  exact ⟨_, (EReal.coe_mul _ _).symm⟩

theorem angle_real (i : S2048x64.Idx) : IsReal (angle i) := by
  have hi := eq_ix2 i
  rw [hi]
  unfold angle
  pointwise
  exact freq_real _ _

theorem angles_real (s : Fin 2048) (d : Fin 128) : IsReal (angles (ix2 s d)) := by
  unfold angles
  have h := angle_real
  generalize angle = A at h
  pointwise
  split <;> exact h _

theorem cos_real (s : Fin 2048) (d : Fin 128) : IsReal (Host.cos angles (ix2 s d)) := by
  obtain ⟨r, hr⟩ := angles_real s d
  show IsReal (Ideal.cos (angles (ix2 s d)))
  rw [hr]; exact ⟨Real.cos r, rfl⟩

theorem sin_real (s : Fin 2048) (d : Fin 128) : IsReal (Host.sin angles (ix2 s d)) := by
  obtain ⟨r, hr⟩ := angles_real s d
  show IsReal (Ideal.sin (angles (ix2 s d)))
  rw [hr]; exact ⟨Real.sin r, rfl⟩

end Cert.KernelIdeal.Host
end
-- ==== Proof.TableRun.lean ====
module

public import proofs.«01_k».proof.Proof.WholeRun
public import proofs.«01_k».proof.Proof.Tables
public import Idealize.ShloMosaic.Lib.Pipeline.ValueKit
public import Idealize.ShloMosaic.Lib.Routing.OpsSet

/-! What the kernel's table operations leave in the buffers. -/

@[expose] public section
set_option maxRecDepth 16384
noncomputable section
namespace Cert.KernelIdeal.Host
open Cert.KernelIdeal Cert.KernelIdeal.Gen Cert.KernelIdeal.Whole Idealize.ShloMosaic Idealize.ShloMosaic.TcCoe Idealize.SL.Sem Idealize.ShloMosaic.StableHlo
open Cert.Form

variable (V : Valuation τ sig (Elt Ideal))

theorem v23_after : after hostOps1 V (Proc.devRef .tc main_v23) = Host.cos angles := by
  after_results_simp
  rfl

theorem v24_after : after hostOps1 V (Proc.devRef .tc main_v24) = Host.sin angles := by
  after_results_simp
  rfl

end Cert.KernelIdeal.Host
end
-- ==== Proof.RefValue.lean ====
module

public import proofs.«01_k».proof.Proof.Gen.ReferenceIdeal.Run
public import proofs.«01_k».proof.Proof.Rows
public import Idealize.ShloMosaic.Lib.Pipeline.ValueKit

/-! The reference's routing and attention, read entry by entry as formulas of the arguments. -/

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Idealize.ShloMosaic.StableHlo
open Cert.Form Cert.Pick

variable (V0 : Valuation τ sig (Elt Ideal))

/-- The tokens. -/
abbrev A0 : FVec Ideal S1x2048x1024 .f32 := V0 (Proc.devRef .tc main_arg0)
abbrev A1 : FVec Ideal S1024x1536 .f32 := V0 (Proc.devRef .tc main_arg1)
abbrev A2 : FVec Ideal S1024x768 .f32 := V0 (Proc.devRef .tc main_arg2)
abbrev A3 : FVec Ideal S1024x768 .f32 := V0 (Proc.devRef .tc main_arg3)
abbrev A4 : FVec Ideal S1024x6 .f32 := V0 (Proc.devRef .tc main_arg4)
abbrev A5 : FVec Ideal S1024x1024 .f32 := V0 (Proc.devRef .tc main_arg5)

/-- Logit of a token against a group. -/
def lgR (s : Fin 2048) (g : Fin 6) : EReal := ∑ e : Fin 1024, A0 V0 (ix3 0 s e) * A4 V0 (ix2 e g)

theorem v0_val (s : Fin 2048) (g : Fin 6) : (res_main_v0 (F := Ideal) V0 : FVec Ideal S1x2048x6 .f32) (ix3 0 s g) = lgR V0 s g := by
  unfold res_main_v0 lgR
  pointwise

theorem first_four {α : Type} (y : S1x2048x6.Idx → α) (h) (s : Fin 2048) (a : Fin 4) :
    extractStridedSlice S1x2048x4 (fun _ => 0) y h (ix3 0 s a) = y (ix3 0 s ⟨a.val, by omega⟩) := by
  pointwise

theorem along_eq (s : Fin 2048) (a k : Fin 6) : Shape.Idx.along (s := S1x2048x6) (ix3 0 s a) 2 k = ix3 0 s k := by
  funext i; fin_cases i <;> rfl

theorem before_eq (x : FVec Ideal S1x2048x6 .f32) (s : Fin 2048) (a : Fin 6) :
    (fun k k' : Fin 6 => FloatOps.cmpfTotal (F := Ideal) .gt (x (Shape.Idx.along (s := S1x2048x6) (ix3 0 s a) 2 k)) (x (Shape.Idx.along (s := S1x2048x6) (ix3 0 s a) 2 k')) == 1#1)
      = fun k k' => decide (x (ix3 0 s k') < x (ix3 0 s k)) := by
  funext k k'
  rw [along_eq, along_eq]
  show (Ideal.cmp .ogt (x (ix3 0 s k)) (x (ix3 0 s k')) == 1#1) = _
  by_cases h : x (ix3 0 s k') < x (ix3 0 s k) <;> simp [Ideal.cmp, h]

/-- A top-k's positions are the order of the row. -/
theorem top_idx (x : FVec Ideal S1x2048x6 .f32) (s : Fin 2048) (a : Fin 4) :
    (Host.topK S1x2048x4 2 (FloatOps.cmpfTotal .gt) x sliceFits_S1x2048x6_S1x2048x4).2 (ix3 0 s a)
      = BitVec.ofNat 32 (ord (fun g : Fin 6 => x (ix3 0 s g)) ⟨a.val, by omega⟩).val := by
  show extractStridedSlice S1x2048x4 (fun _ => 0) (Host.sort2 S1x2048x6 2 (fun l r : EReal × BitVec 32 => FloatOps.cmpfTotal (F := Ideal) (φ := .f32) .gt l.1 r.1) x (fun i => BitVec.ofNat 32 (i 2).val)).2 sliceFits_S1x2048x6_S1x2048x4 (ix3 0 s a) = _
  rw [first_four]
  show BitVec.ofNat 32 (sortedFrom (fun k k' : Fin 6 => FloatOps.cmpfTotal (F := Ideal) .gt (x (Shape.Idx.along (s := S1x2048x6) (ix3 0 s ⟨a.val, _⟩) 2 k)) (x (Shape.Idx.along (s := S1x2048x6) (ix3 0 s ⟨a.val, _⟩) 2 k')) == 1#1) ⟨a.val, _⟩).val = _
  rw [before_eq]; rfl

theorem top_val (x : FVec Ideal S1x2048x6 .f32) (s : Fin 2048) (a : Fin 4) :
    (Host.topK S1x2048x4 2 (FloatOps.cmpfTotal .gt) x sliceFits_S1x2048x6_S1x2048x4).1 (ix3 0 s a)
      = x (ix3 0 s (ord (fun g : Fin 6 => x (ix3 0 s g)) ⟨a.val, by omega⟩)) := by
  show extractStridedSlice S1x2048x4 (fun _ => 0) (Host.sort2 S1x2048x6 2 (fun l r : EReal × BitVec 32 => FloatOps.cmpfTotal (F := Ideal) (φ := .f32) .gt l.1 r.1) x (fun i => BitVec.ofNat 32 (i 2).val)).1 sliceFits_S1x2048x6_S1x2048x4 (ix3 0 s a) = _
  rw [first_four]
  show x (Shape.Idx.along (s := S1x2048x6) (ix3 0 s ⟨a.val, _⟩) 2 (sortedFrom (fun k k' : Fin 6 => FloatOps.cmpfTotal (F := Ideal) .gt (x (Shape.Idx.along (s := S1x2048x6) (ix3 0 s ⟨a.val, _⟩) 2 k)) (x (Shape.Idx.along (s := S1x2048x6) (ix3 0 s ⟨a.val, _⟩) 2 k')) == 1#1) ⟨a.val, _⟩)) = _
  refine (congrArg x (along_eq s _ _)).trans ?_
  exact congrArg (fun f => x (ix3 0 s (sortedFrom f ⟨a.val, by omega⟩))) (before_eq x s ⟨a.val, by omega⟩)

theorem idx_val (s : Fin 2048) (a : Fin 4) : (res_main_indices (F := Ideal) V0 : IVec S1x2048x4 32) (ix3 0 s a) = BitVec.ofNat 32 (ord (lgR V0 s) ⟨a.val, by omega⟩).val := by
  unfold res_main_indices
  rw [top_idx]
  simp only [v0_val]

theorem values_val (s : Fin 2048) (a : Fin 4) : (res_main_values (F := Ideal) V0 : FVec Ideal S1x2048x4 .f32) (ix3 0 s a) = lgR V0 s (ord (lgR V0 s) ⟨a.val, by omega⟩) := by
  unfold res_main_values
  rw [top_val]
  simp only [v0_val]

theorem exp6 (L : FVec Ideal S1x2048x6 .f32) (s : Fin 2048) (g : Fin 6) :
    Host.exp (subf L (broadcastInDim S1x2048x6 ![0, 1, 2] bcast_S1x2048x1_S1x2048x6_0_1_2 (broadcastInDim S1x2048x1 ![0, 1] bcast_S1x2048_S1x2048x1_0_1 (maximumf (broadcastInDim S1x2048 ![] bcast_S_S1x2048 (constant S_ .f32 0xFF800000#32)) (Host.reduce FloatOps.maximumf L (constant S_ .f32 0xFF800000#32) reducesTo_S1x2048x6_S1x2048_d2 h_S_))))) (ix3 0 s g)
      = Ideal.exp (L (ix3 0 s g) - top (fun g => L (ix3 0 s g))) := by
  pointwise [neg_inf]
  rw [max_eq_right bot_le]; rfl

theorem exp4 (L : FVec Ideal S1x2048x4 .f32) (s : Fin 2048) (g : Fin 4) :
    Host.exp (subf L (broadcastInDim S1x2048x4 ![0, 1, 2] bcast_S1x2048x1_S1x2048x4_0_1_2 (broadcastInDim S1x2048x1 ![0, 1] bcast_S1x2048_S1x2048x1_0_1 (maximumf (broadcastInDim S1x2048 ![] bcast_S_S1x2048 (constant S_ .f32 0xFF800000#32)) (Host.reduce FloatOps.maximumf L (constant S_ .f32 0xFF800000#32) reducesTo_S1x2048x4_S1x2048_d2 h_S_))))) (ix3 0 s g)
      = Ideal.exp (L (ix3 0 s g) - top (fun g => L (ix3 0 s g))) := by
  pointwise [neg_inf]
  rw [max_eq_right bot_le]; rfl

theorem v7_val (s : Fin 2048) (g : Fin 6) : (res_main_v7 (F := Ideal) V0 : FVec Ideal S1x2048x6 .f32) (ix3 0 s g) = Ideal.exp (lgR V0 s g - lgR V0 s (ord (lgR V0 s) 0)) := by
  refine (exp6 (res_main_v0 V0) s g).trans ?_
  simp only [v0_val]
  rw [show (fun g => lgR V0 s g) = lgR V0 s from rfl, top_ord]

theorem v11_val (s : Fin 2048) (g : Fin 6) : (res_main_v11 (F := Ideal) V0 : FVec Ideal S1x2048x6 .f32) (ix3 0 s g) = soft (lgR V0 s) g := by
  unfold res_main_v11 soft
  pointwise [v7_val]

theorem v18_val (s : Fin 2048) (a : Fin 4) : (res_main_v18 (F := Ideal) V0 : FVec Ideal S1x2048x4 .f32) (ix3 0 s a) = Ideal.exp (lgR V0 s (ord (lgR V0 s) ⟨a.val, by omega⟩) - lgR V0 s (ord (lgR V0 s) 0)) := by
  refine (exp4 (res_main_values V0) s a).trans ?_
  simp only [values_val]
  rw [top_four]

end Cert.ReferenceIdeal.Val
end
-- ==== Proof.RefScores.lean ====
module

public import proofs.«01_k».proof.Proof.RefValue

/-! The reference's masked scores and group outputs, read entry by entry. -/

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Idealize.ShloMosaic.StableHlo
open Cert.Form Cert.Pick

variable (V0 : Valuation τ sig (Elt Ideal))

/-- Queries turned by position. -/
def rotq (Q : FVec Ideal S1x2048x6x2x128 .f32) (C S : FVec Ideal S2048x128 .f32) : FVec Ideal S1x2048x6x2x128 .f32 :=
  addf (mulf Q (broadcastInDim S1x2048x6x2x128 ![0, 1, 2, 3, 4] bcast_S1x2048x1x1x128_S1x2048x6x2x128_0_1_2_3_4 (broadcastInDim S1x2048x1x1x128 ![1, 4] bcast_S2048x128_S1x2048x1x1x128_1_4 C))) (mulf (concatenate S1x2048x6x2x128 4 [⟨S1x2048x6x2x64, (Host.negf (extractStridedSlice S1x2048x6x2x64 ![0, 0, 0, 0, 64] Q slices_S1x2048x6x2x128_S1x2048x6x2x64_0_0_0_0_64))⟩, ⟨S1x2048x6x2x64, (extractStridedSlice S1x2048x6x2x64 ![0, 0, 0, 0, 0] Q slices_S1x2048x6x2x128_S1x2048x6x2x64_0_0_0_0_0)⟩] concatenates_S1x2048x6x2x64_S1x2048x6x2x64_S1x2048x6x2x128_d4) (broadcastInDim S1x2048x6x2x128 ![0, 1, 2, 3, 4] bcast_S1x2048x1x1x128_S1x2048x6x2x128_0_1_2_3_4 (broadcastInDim S1x2048x1x1x128 ![1, 4] bcast_S2048x128_S1x2048x1x1x128_1_4 S)))

/-- Keys turned by position. -/
def rotk (K : FVec Ideal S1x2048x6x128 .f32) (C S : FVec Ideal S2048x128 .f32) : FVec Ideal S1x2048x6x128 .f32 :=
  addf (mulf K (broadcastInDim S1x2048x6x128 ![0, 1, 2, 3] bcast_S1x2048x1x128_S1x2048x6x128_0_1_2_3 (broadcastInDim S1x2048x1x128 ![1, 3] bcast_S2048x128_S1x2048x1x128_1_3 C))) (mulf (concatenate S1x2048x6x128 3 [⟨S1x2048x6x64, (Host.negf (extractStridedSlice S1x2048x6x64 ![0, 0, 0, 64] K slices_S1x2048x6x128_S1x2048x6x64_0_0_0_64))⟩, ⟨S1x2048x6x64, (extractStridedSlice S1x2048x6x64 ![0, 0, 0, 0] K slices_S1x2048x6x128_S1x2048x6x64_0_0_0_0)⟩] concatenates_S1x2048x6x64_S1x2048x6x64_S1x2048x6x128_d3) (broadcastInDim S1x2048x6x128 ![0, 1, 2, 3] bcast_S1x2048x1x128_S1x2048x6x128_0_1_2_3 (broadcastInDim S1x2048x1x128 ![1, 3] bcast_S2048x128_S1x2048x1x128_1_3 S)))

/-- Which groups a token chose, as bits. -/
def memb (I : IVec S1x2048x4 32) : IVec S1x6x2048 1 :=
  transpose S1x6x2048 [0, 2, 1] (Host.reduce IntOp.ori (cmpi .eq (broadcastInDim S1x2048x4x6 ![0, 1, 2, 3] bcast_S1x2048x4x1_S1x2048x4x6_0_1_2_3 (broadcastInDim S1x2048x4x1 ![0, 1, 2] bcast_S1x2048x4_S1x2048x4x1_0_1_2 I)) (broadcastInDim S1x2048x4x6 ![0, 1, 2, 3] bcast_S1x1x1x6_S1x2048x4x6_0_1_2_3 (broadcastInDim S1x1x1x6 ![3] bcast_S6_S1x1x1x6_3 (iotaInDim S6 32 0)))) (constantI S_ 1 0#1) reducesTo_S1x2048x4x6_S1x2048x6_d2 h_S_) transposes_S1x2048x6_S1x6x2048_0_2_1

/-- The causal mask as bits. -/
def caus : IVec S2048x2048 1 :=
  select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))

/-- Masked scores from turned queries and keys and the two masks. -/
def scored (Q : FVec Ideal S1x2048x6x2x128 .f32) (K : FVec Ideal S1x2048x6x128 .f32) (M : IVec S1x6x2048 1) (T : IVec S2048x2048 1) : FVec Ideal S1x6x2x2048x2048 .f32 :=
  select (broadcastInDim S1x6x2x2048x2048 ![0, 1, 2, 3, 4] bcast_S1x6x1x2048x2048_S1x6x2x2048x2048_0_1_2_3_4 (andi (broadcastInDim S1x6x1x2048x2048 ![0, 1, 2, 3, 4] bcast_S1x1x1x2048x2048_S1x6x1x2048x2048_0_1_2_3_4 (broadcastInDim S1x1x1x2048x2048 ![3, 4] bcast_S2048x2048_S1x1x1x2048x2048_3_4 T)) (broadcastInDim S1x6x1x2048x2048 ![0, 1, 2, 3, 4] bcast_S1x6x1x1x2048_S1x6x1x2048x2048_0_1_2_3_4 (broadcastInDim S1x6x1x1x2048 ![0, 1, 4] bcast_S1x6x2048_S1x6x1x1x2048_0_1_4 M)))) (mulf (transpose S1x6x2x2048x2048 [0, 1, 4, 3, 2] (Host.dotGeneral dot_S1x2048x6x128_S1x2048x6x2x128_S1x6x2048x2048x2_3_4_1_13_02_02 none K Q) transposes_S1x6x2048x2048x2_S1x6x2x2048x2048_0_1_4_3_2) (broadcastInDim S1x6x2x2048x2048 ![] bcast_S_S1x6x2x2048x2048 (constant S_ .f32 0x3DB504F3#32))) (broadcastInDim S1x6x2x2048x2048 ![] bcast_S_S1x6x2x2048x2048 (id (constant S_ .f32 0xFF800000#32)))

theorem v116_eq : res_main_v116 (F := Ideal) V0 = scored (rotq (res_main_v50 V0) (res_main_v73 V0) (res_main_v74 V0)) (rotk (res_main_v52 V0) (res_main_v73 V0) (res_main_v74 V0)) (memb (res_main_indices V0)) caus := rfl

theorem rotq_val (Q : FVec Ideal S1x2048x6x2x128 .f32) (C S : FVec Ideal S2048x128 .f32) (s : Fin 2048) (g : Fin 6) (h : Fin 2) (d : Fin 128) :
    rotq Q C S (ix5 0 s g h d) = ropeAt (fun d => Q (ix5 0 s g h d)) (fun d => C (ix2 s d)) (fun d => S (ix2 s d)) d := by
  unfold rotq ropeAt
  pointwise
  simp only [zero_sub]

theorem rotk_val (K : FVec Ideal S1x2048x6x128 .f32) (C S : FVec Ideal S2048x128 .f32) (s : Fin 2048) (g : Fin 6) (d : Fin 128) :
    rotk K C S (ix4 0 s g d) = ropeAt (fun d => K (ix4 0 s g d)) (fun d => C (ix2 s d)) (fun d => S (ix2 s d)) d := by
  unfold rotk ropeAt
  pointwise
  simp only [zero_sub]

theorem or_four (p q r t : Prop) [Decidable p] [Decidable q] [Decidable r] [Decidable t] :
    IntOp.ori (if p then 1#1 else 0#1) (IntOp.ori (if q then 1#1 else 0#1) (IntOp.ori (if r then 1#1 else 0#1) (IntOp.ori (if t then 1#1 else 0#1) 0#1)))
      = if p ∨ q ∨ r ∨ t then 1#1 else 0#1 := by
  by_cases hp : p <;> by_cases hq : q <;> by_cases hr : r <;> by_cases ht : t <;> simp only [hp, hq, hr, ht, if_true, if_false, true_or, or_true, or_self] <;> rfl

theorem caus_word (s t : BitVec 32) : Scalar.select (IntOp.cmpi CmpIPredicate.sge (IntOp.addi s 0#32) t) 1#1 0#1 = IntOp.cmpi CmpIPredicate.sle t s := by
  have e : IntOp.addi s 0#32 = s := BitVec.add_zero s
  rw [e]
  have g : IntOp.cmpi CmpIPredicate.sge s t = IntOp.cmpi CmpIPredicate.sle t s := rfl
  rw [g]
  unfold Scalar.select IntOp.cmpi
  cases (t.sle s) <;> rfl

theorem memb_val (I : IVec S1x2048x4 32) (t : Fin 2048) (g : Fin 6) (ℓ : Fin 6 → EReal) (hI : ∀ a : Fin 4, I (ix3 0 t a) = BitVec.ofNat 32 (ord ℓ ⟨a.val, by omega⟩).val) :
    memb I (ix3 0 g t) = if chosen ℓ g.val then 1#1 else 0#1 := by
  unfold memb
  pointwise [hI]
  have e : ∀ f : Fin 4 → BitVec 1, Finset.fold IntOp.ori 0#1 f Finset.univ = IntOp.ori (f 0) (IntOp.ori (f 1) (IntOp.ori (f 2) (IntOp.ori (f 3) 0#1))) := fun f => rfl
  rw [e]
  rw [eq_word _ _ (by omega) (by omega), eq_word _ _ (by omega) (by omega), eq_word _ _ (by omega) (by omega), eq_word _ _ (by omega) (by omega)]
  refine (or_four _ _ _ _).trans (if_congr ?_ rfl rfl)
  exact or_congr eq_comm (or_congr eq_comm (or_congr eq_comm eq_comm))

theorem caus_val (s t : Fin 2048) : caus (ix2 s t) = if t.val ≤ s.val then 1#1 else 0#1 := by
  unfold caus
  pointwise
  exact (caus_word _ _).trans (sle_nat t.val s.val (by omega) (by omega))

theorem scored_val (Q : FVec Ideal S1x2048x6x2x128 .f32) (K : FVec Ideal S1x2048x6x128 .f32) (M : IVec S1x6x2048 1) (T : IVec S2048x2048 1) (s t : Fin 2048) (g : Fin 6) (h : Fin 2)
    (p q : Prop) [Decidable p] [Decidable q] (hT : T (ix2 s t) = if p then 1#1 else 0#1) (hM : M (ix3 0 g t) = if q then 1#1 else 0#1) :
    scored Q K M T (ix5 0 g h s t) = masked (p ∧ q) ((∑ d : Fin 128, K (ix4 0 t g d) * Q (ix5 0 s g h d)) * scale) := by
  unfold scored scale masked
  pointwise [hT, hM, neg_inf]
  rw [show id (constant (F := Ideal) S_ FTy.f32 4286578688#32) ix0 = ⊥ from neg_inf]
  by_cases hp : p <;> by_cases hq : q <;> simp [hp, hq, Scalar.select, IntOp.andi]

theorem row_top {n0 n1 n2 n3 n4 : ℕ} (L : FVec Ideal ⟨5, ![n0, n1, n2, n3, n4]⟩ .f32) (hr : (⟨5, ![n0, n1, n2, n3, n4]⟩ : Shape).ReducesTo [4] ⟨4, ![n0, n1, n2, n3]⟩)
    (i0 : Fin n0) (i1 : Fin n1) (i2 : Fin n2) (i3 : Fin n3) :
    Host.reduce FloatOps.maximumf L (constant S_ .f32 0xFF800000#32) hr h_S_ (ix4 i0 i1 i2 i3) = top (fun t => L (ix5 i0 i1 i2 i3 t)) := by
  pointwise [neg_inf]
  rfl

theorem exp_sub (L : FVec Ideal S1x6x2x2048x2048 .f32) (T : FVec Ideal S1x6x2x2048 .f32) (g : Fin 6) (h : Fin 2) (s t : Fin 2048) :
    (Host.exp (subf L (broadcastInDim S1x6x2x2048x2048 ![0, 1, 2, 3, 4] bcast_S1x6x2x2048x1_S1x6x2x2048x2048_0_1_2_3_4 (broadcastInDim S1x6x2x2048x1 ![0, 1, 2, 3] bcast_S1x6x2x2048_S1x6x2x2048x1_0_1_2_3 (maximumf (broadcastInDim S1x6x2x2048 ![] bcast_S_S1x6x2x2048 (constant S_ .f32 0xFF800000#32)) T))))) (ix5 0 g h s t)
      = Ideal.exp (L (ix5 0 g h s t) - T (ix4 0 g h s)) := by
  pointwise [neg_inf]
  rw [max_eq_right bot_le]

theorem exp5 (L : FVec Ideal S1x6x2x2048x2048 .f32) (g : Fin 6) (h : Fin 2) (s t : Fin 2048) :
    (Host.exp (subf L (broadcastInDim S1x6x2x2048x2048 ![0, 1, 2, 3, 4] bcast_S1x6x2x2048x1_S1x6x2x2048x2048_0_1_2_3_4 (broadcastInDim S1x6x2x2048x1 ![0, 1, 2, 3] bcast_S1x6x2x2048_S1x6x2x2048x1_0_1_2_3 (maximumf (broadcastInDim S1x6x2x2048 ![] bcast_S_S1x6x2x2048 (constant S_ .f32 0xFF800000#32)) (Host.reduce FloatOps.maximumf L (constant S_ .f32 0xFF800000#32) reducesTo_S1x6x2x2048x2048_S1x6x2x2048_d4 h_S_)))))) (ix5 0 g h s t)
      = Ideal.exp (L (ix5 0 g h s t) - top (fun t => L (ix5 0 g h s t))) :=
  (exp_sub L _ g h s t).trans (congrArg (fun x => Ideal.exp (L (ix5 0 g h s t) - x)) (row_top L _ 0 g h s))

/-- Group outputs from values and exponentials. -/
def mixed (W : FVec Ideal S1x2048x6x128 .f32) (E : FVec Ideal S1x6x2x2048x2048 .f32) : FVec Ideal S1x2048x6x2x128 .f32 :=
  transpose S1x2048x6x2x128 [0, 4, 1, 3, 2] (Host.dotGeneral dot_S1x2048x6x128_S1x6x2x2048x2048_S1x6x128x2x2048_1_4_3_23_02_01 none W (Host.divf E (broadcastInDim S1x6x2x2048x2048 ![0, 1, 2, 3, 4] bcast_S1x6x2x2048x1_S1x6x2x2048x2048_0_1_2_3_4 (broadcastInDim S1x6x2x2048x1 ![0, 1, 2, 3] bcast_S1x6x2x2048_S1x6x2x2048x1_0_1_2_3 (Host.reduceAdd E (constant S_ .f32 0x00000000#32) reducesTo_S1x6x2x2048x2048_S1x6x2x2048_d4 h_S_))))) transposes_S1x6x128x2x2048_S1x2048x6x2x128_0_4_1_3_2

theorem mixed_val (W : FVec Ideal S1x2048x6x128 .f32) (E : FVec Ideal S1x6x2x2048x2048 .f32) (s : Fin 2048) (g : Fin 6) (h : Fin 2) (d : Fin 128) :
    mixed W E (ix5 0 s g h d) = ∑ t : Fin 2048, W (ix4 0 t g d) * Ideal.div (E (ix5 0 g h s t)) (∑ t' : Fin 2048, E (ix5 0 g h s t')) := by
  unfold mixed
  pointwise

end Cert.ReferenceIdeal.Val
end
-- ==== Proof.RefChosen.lean ====
module

public import proofs.«01_k».proof.Proof.RefValue

/-! The reference's gather of the chosen groups' outputs, read entry by entry. -/

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Idealize.ShloMosaic.StableHlo
open Cert.Form Cert.Pick

variable (V0 : Valuation τ sig (Elt Ideal))

theorem gather_val (x : FVec Ideal S1x2048x6x2x128 .f32) (idx : IVec S2048x4x2x128x1 32) (s : Fin 2048) (a : Fin 4) (h : Fin 2) (d : Fin 128) (n : Fin 6)
    (hi : idx (ix5 s a h d 0) = BitVec.ofNat 32 n.val) :
    Host.gather gather_S1x2048x6x2x128_S2048x4x2x128x1_S1x2048x4x2x128_0_2_134_023_2_4_11111 x idx (ix5 0 s a h d) = x (ix5 0 s n h d) := by
  unfold Host.gather
  refine congrArg x ?_
  funext b
  refine Fin.ext ?_
  fin_cases b
  · rfl
  · show 0 + s.val + 0 = s.val
    omega
  · refine (congrArg (fun w : BitVec 32 => min w.toInt.toNat 5 + 0 + 0) ((congrArg idx ?_).trans hi)).trans ?_
    · funext c
      refine Fin.ext ?_
      fin_cases c <;> rfl
    · show min (BitVec.ofNat 32 n.val).toInt.toNat 5 + 0 + 0 = n.val
      fin_cases n <;> rfl
  · show 0 + h.val + 0 = h.val
    omega
  · show 0 + d.val + 0 = d.val
    omega

theorem call_val (s : Fin 2048) (a : Fin 4) (h : Fin 2) (d : Fin 128) :
    (res_main_call3_v5 (F := Ideal) V0 : IVec S2048x4x2x128x1 32) (ix5 s a h d 0) = BitVec.ofNat 32 (ord (lgR V0 s) ⟨a.val, by omega⟩).val := by
  unfold res_main_call3_v5 res_main_v131
  pointwise [idx_val]
  generalize ord (lgR V0 s) ⟨a.val, _⟩ = n
  fin_cases n <;> rfl

/-- The chosen groups' outputs. -/
def chosenOut (O : FVec Ideal S1x2048x6x2x128 .f32) (I : IVec S2048x4x2x128x1 32) : FVec Ideal S1x2048x4x2x128 .f32 :=
  select (broadcastInDim S1x2048x4x2x128 ![1, 2, 3, 4] bcast_S2048x4x2x128_S1x2048x4x2x128_1_2_3_4 (Host.reduce IntOp.andi (andi (cmpi .sge I (broadcastInDim S2048x4x2x128x1 ![] bcast_S_S2048x4x2x128x1 (constantI S_ 32 0#32))) (cmpi .sle I (broadcastInDim S2048x4x2x128x1 ![0, 1, 2, 3, 4] bcast_S1x1x1x1x1_S2048x4x2x128x1_0_1_2_3_4 (broadcastInDim S1x1x1x1x1 ![4] bcast_S1_S1x1x1x1x1_4 (constantI S1 32 5#32))))) (constantI S_ 1 1#1) reducesTo_S2048x4x2x128x1_S2048x4x2x128_d4 h_S_)) (Host.gather gather_S1x2048x6x2x128_S2048x4x2x128x1_S1x2048x4x2x128_0_2_134_023_2_4_11111 O I) (broadcastInDim S1x2048x4x2x128 ![] bcast_S_S1x2048x4x2x128 (constant S_ .f32 0x7FC00000#32))

theorem chosenOut_val (O : FVec Ideal S1x2048x6x2x128 .f32) (I : IVec S2048x4x2x128x1 32) (s : Fin 2048) (a : Fin 4) (h : Fin 2) (d : Fin 128) (n : Fin 6)
    (hi : I (ix5 s a h d 0) = BitVec.ofNat 32 n.val) : chosenOut O I (ix5 0 s a h d) = O (ix5 0 s n h d) := by
  unfold chosenOut
  pointwise [hi]
  rw [gather_val O I s a h d n hi]
  have e : ∀ f : Fin 1 → BitVec 1, Finset.fold IntOp.andi 1#1 f Finset.univ = IntOp.andi (f 0) 1#1 := fun f => rfl
  rw [e]
  have hi0 : I (ix5 s a h d (0 : Fin 1)) = BitVec.ofNat 32 n.val := hi
  rw [hi0]
  generalize O (ix5 0 s n h d) = y
  fin_cases n <;> rfl

end Cert.ReferenceIdeal.Val
end
-- ==== Proof.RefOut.lean ====
module

public import proofs.«01_k».proof.Proof.RefValue

/-! The reference's two results, read entry by entry. -/

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Idealize.ShloMosaic.StableHlo
open Cert.Form Cert.Pick

variable (V0 : Valuation τ sig (Elt Ideal))

/-- The output projection of the weighted chosen outputs. -/
def projected (G : FVec Ideal S1x2048x4x2x128 .f32) (P : FVec Ideal S1x2048x4 .f32) (W : FVec Ideal S1024x1024 .f32) : FVec Ideal S1x2048x1024 .f32 :=
  Host.dotGeneral dot_S1x2048x1024_S1024x1024_S1x2048x1024_2_0_01_1_n_n none (shapeCast _ (mulf G (broadcastInDim S1x2048x4x2x128 ![0, 1, 2, 3, 4] bcast_S1x2048x4x1x1_S1x2048x4x2x128_0_1_2_3_4 (broadcastInDim S1x2048x4x1x1 ![0, 1, 2] bcast_S1x2048x4_S1x2048x4x1x1_0_1_2 P))) shapeCasts_S1x2048x4x2x128_S1x2048x1024) W

theorem sum_blocks (f : Fin 1024 → EReal) : ∑ x, f x = ∑ a : Fin 4, ∑ k : Fin 256, f ⟨a.val * 256 + k.val, by omega⟩ :=
  Fin.sum_univ_tiles 4 256 rfl f

theorem projected_val (G : FVec Ideal S1x2048x4x2x128 .f32) (P : FVec Ideal S1x2048x4 .f32) (W : FVec Ideal S1024x1024 .f32) (s : Fin 2048) (n : Fin 1024) :
    projected G P W (ix3 0 s n) = ∑ a : Fin 4, ∑ k : Fin 256, G (ix5 0 s a ⟨k.val / 128, by omega⟩ ⟨k.val % 128, by omega⟩) * P (ix3 0 s a) * W (ix2 ⟨a.val * 256 + k.val, by omega⟩ n) := by
  unfold projected
  pointwise
  rw [sum_blocks]
  refine Finset.sum_congr rfl fun a _ => Finset.sum_congr rfl fun k _ => ?_
  have e1 : (⟨(a.val * 256 + k.val) / 256, by omega⟩ : Fin 4) = a := Fin.ext (by show (a.val * 256 + k.val) / 256 = a.val; omega)
  have e2 : (⟨(a.val * 256 + k.val) / 128 % 2, by omega⟩ : Fin 2) = ⟨k.val / 128, by omega⟩ := Fin.ext (by show (a.val * 256 + k.val) / 128 % 2 = k.val / 128; omega)
  have e3 : (⟨(a.val * 256 + k.val) % 128, by omega⟩ : Fin 128) = ⟨k.val % 128, by omega⟩ := Fin.ext (by show (a.val * 256 + k.val) % 128 = k.val % 128; omega)
  simp only [e1, e2, e3]

theorem weight_val (s : Fin 2048) (a : Fin 4) : (Host.divf (res_main_v18 V0) (broadcastInDim S1x2048x4 ![0, 1, 2] bcast_S1x2048x1_S1x2048x4_0_1_2 (broadcastInDim S1x2048x1 ![0, 1] bcast_S1x2048_S1x2048x1_0_1 (Host.reduceAdd (res_main_v18 V0) (constant S_ .f32 0x00000000#32) reducesTo_S1x2048x4_S1x2048_d2 h_S_))) : FVec Ideal S1x2048x4 .f32) (ix3 0 s a) = wt (lgR V0 s) ⟨a.val, by omega⟩ := by
  pointwise [v18_val]
  unfold wt
  rw [Fin.sum_univ_four]; rfl

/-- The reference's auxiliary loss. -/
def auxR : FVec Ideal S_ .f32 :=
  addf (mulf (constant S_ .f32 0x3C23D70A#32) (mulf (constant S_ .f32 0x40C00000#32) (Host.divf (Host.reduceAdd (Host.reduceAdd (mulf (Host.divf (Host.reduceAdd (uitofp .f32 (cmpi .eq (broadcastInDim S1x2048x6 ![0, 1, 2] bcast_S1x2048x1_S1x2048x6_0_1_2 (broadcastInDim S1x2048x1 ![0, 1] bcast_S1x2048_S1x2048x1_0_1 (shapeCast _ (extractStridedSlice S1x2048x1 ![0, 0, 0] (res_main_indices V0) slices_S1x2048x4_S1x2048x1_0_0_0) shapeCasts_S1x2048x1_S1x2048))) (broadcastInDim S1x2048x6 ![0, 1, 2] bcast_S1x1x6_S1x2048x6_0_1_2 (iotaInDim S1x1x6 32 2)))) (constant S_ .f32 0x00000000#32) reducesTo_S1x2048x6_S1x6_d1 h_S_) (broadcastInDim S1x6 ![] bcast_S_S1x6 (constant S_ .f32 0x45000000#32))) (Host.divf (Host.reduceAdd (res_main_v11 V0) (constant S_ .f32 0x00000000#32) reducesTo_S1x2048x6_S1x6_d1 h_S_) (broadcastInDim S1x6 ![] bcast_S_S1x6 (constant S_ .f32 0x45000000#32)))) (constant S_ .f32 0x00000000#32) reducesTo_S1x6_S1_d1 h_S_) (constant S_ .f32 0x00000000#32) reducesTo_S1_S_d0 h_S_) (constant S_ .f32 0x3F800000#32)))) (mulf (constant S_ .f32 0x3C23D70A#32) (Host.negf (Host.divf (Host.reduceAdd (Host.negf (Host.reduceAdd (mulf (res_main_v11 V0) (Host.log (addf (res_main_v11 V0) (broadcastInDim S1x2048x6 ![] bcast_S_S1x2048x6 (constant S_ .f32 0x322BCC77#32))))) (constant S_ .f32 0x00000000#32) reducesTo_S1x2048x6_S1x2048_d2 h_S_)) (constant S_ .f32 0x00000000#32) reducesTo_S1x2048_S_d0_1 h_S_) (constant S_ .f32 0x45000000#32))))

theorem auxR_val : auxR V0 ix0 =
    Ideal.ofBits .f32 1008981770#32 * (Ideal.ofBits .f32 1086324736#32 *
        ∑ x : Fin 6, Ideal.div (∑ s : Fin 2048, if (ord (lgR V0 s) 0).val = x.val then 1 else 0) (Ideal.ofBits .f32 1157627904#32)
          * Ideal.div (∑ s : Fin 2048, soft (lgR V0 s) x) (Ideal.ofBits .f32 1157627904#32))
      + Ideal.ofBits .f32 1008981770#32 * -Ideal.div (∑ s : Fin 2048, -ent (lgR V0 s)) (Ideal.ofBits .f32 1157627904#32) := by
  unfold auxR
  pointwise [v11_val, idx_val]
  rw [Fin.sum_univ_one, Fin.sum_univ_one]
  have d1 : ∀ x : EReal, Ideal.div x 1 = x := by
    intro x
    unfold Ideal.div
    rw [if_neg one_ne_zero]; simp
  rw [d1]
  have u : ∀ (s : Fin 2048) (x : Fin 6), (FloatOps.uitofp (F := Ideal) .f32 (IntOp.cmpi .eq (BitVec.ofNat 32 (ord (lgR V0 s) 0).val) (BitVec.ofNat 32 x.val)) : EReal) = if (ord (lgR V0 s) 0).val = x.val then 1 else 0 := by
    intro s x
    rw [eq_word _ _ (by omega) (by omega)]
    by_cases h : x.val = (ord (lgR V0 s) 0).val
    · rw [if_pos h, if_pos h.symm]; show ((((1#1 : BitVec 1).toNat : ℝ)) : EReal) = 1; simp
    · rw [if_neg h, if_neg (Ne.symm h)]; show ((((0#1 : BitVec 1).toNat : ℝ)) : EReal) = 0; simp
  simp only [u]
  rfl

/-- A head's query entry. -/
def qR (s : Fin 2048) (g : Fin 6) (h : Fin 2) (d : Fin 128) : EReal :=
  ∑ e : Fin 1024, A0 V0 (ix3 0 s e) * A1 V0 (ix2 e ⟨g.val * 256 + h.val * 128 + d.val, by omega⟩)

/-- A group's key entry. -/
def kR (s : Fin 2048) (g : Fin 6) (d : Fin 128) : EReal :=
  ∑ e : Fin 1024, A0 V0 (ix3 0 s e) * A2 V0 (ix2 e ⟨g.val * 128 + d.val, by omega⟩)

/-- A group's value entry. -/
def vR (s : Fin 2048) (g : Fin 6) (d : Fin 128) : EReal :=
  ∑ e : Fin 1024, A0 V0 (ix3 0 s e) * A3 V0 (ix2 e ⟨g.val * 128 + d.val, by omega⟩)

theorem q_lin (X : FVec Ideal S1x2048x1024 .f32) (W : FVec Ideal S1024x1536 .f32) (s : Fin 2048) (g : Fin 6) (h : Fin 2) (d : Fin 128) :
    (shapeCast _ (Host.dotGeneral dot_S1x2048x1024_S1024x1536_S1x2048x1536_2_0_01_1_n_n none X W) shapeCasts_S1x2048x1536_S1x2048x6x2x128 : FVec Ideal S1x2048x6x2x128 .f32) (ix5 0 s g h d)
      = ∑ e : Fin 1024, X (ix3 0 s e) * W (ix2 e ⟨g.val * 256 + h.val * 128 + d.val, by omega⟩) := by
  pointwise

theorem kv_lin (X : FVec Ideal S1x2048x1024 .f32) (W : FVec Ideal S1024x768 .f32) (s : Fin 2048) (g : Fin 6) (d : Fin 128) :
    (shapeCast _ (Host.dotGeneral dot_S1x2048x1024_S1024x768_S1x2048x768_2_0_01_1_n_n none X W) shapeCasts_S1x2048x768_S1x2048x6x128 : FVec Ideal S1x2048x6x128 .f32) (ix4 0 s g d)
      = ∑ e : Fin 1024, X (ix3 0 s e) * W (ix2 e ⟨g.val * 128 + d.val, by omega⟩) := by
  pointwise

theorem v50_val (s : Fin 2048) (g : Fin 6) (h : Fin 2) (d : Fin 128) : (res_main_v50 (F := Ideal) V0 : FVec Ideal S1x2048x6x2x128 .f32) (ix5 0 s g h d) = qR V0 s g h d :=
  q_lin (A0 V0) (A1 V0) s g h d

theorem v52_val (s : Fin 2048) (g : Fin 6) (d : Fin 128) : (res_main_v52 (F := Ideal) V0 : FVec Ideal S1x2048x6x128 .f32) (ix4 0 s g d) = kR V0 s g d :=
  kv_lin (A0 V0) (A2 V0) s g d

end Cert.ReferenceIdeal.Val
end
-- ==== Proof.RefFinal.lean ====
module

public import proofs.«01_k».proof.Proof.RefScores
public import proofs.«01_k».proof.Proof.RefChosen
public import proofs.«01_k».proof.Proof.RefOut
public import proofs.«01_k».proof.Proof.Laws

/-! The reference's output, entry by entry. -/

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Idealize.ShloMosaic.StableHlo
open Cert.Form Cert.Pick

variable (V0 : Valuation τ sig (Elt Ideal))

/-- The reference's output. -/
def outR : FVec Ideal S1x2048x1024 .f32 :=
  Host.dotGeneral dot_S1x2048x1024_S1024x1024_S1x2048x1024_2_0_01_1_n_n none (shapeCast _ (mulf (select (broadcastInDim S1x2048x4x2x128 ![1, 2, 3, 4] bcast_S2048x4x2x128_S1x2048x4x2x128_1_2_3_4 (Host.reduce IntOp.andi (andi (cmpi .sge (res_main_call3_v5 V0) (broadcastInDim S2048x4x2x128x1 ![] bcast_S_S2048x4x2x128x1 (constantI S_ 32 0#32))) (cmpi .sle (res_main_call3_v5 V0) (broadcastInDim S2048x4x2x128x1 ![0, 1, 2, 3, 4] bcast_S1x1x1x1x1_S2048x4x2x128x1_0_1_2_3_4 (broadcastInDim S1x1x1x1x1 ![4] bcast_S1_S1x1x1x1x1_4 (constantI S1 32 5#32))))) (constantI S_ 1 1#1) reducesTo_S2048x4x2x128x1_S2048x4x2x128_d4 h_S_)) (Host.gather gather_S1x2048x6x2x128_S2048x4x2x128x1_S1x2048x4x2x128_0_2_134_023_2_4_11111 (transpose S1x2048x6x2x128 [0, 4, 1, 3, 2] (Host.dotGeneral dot_S1x2048x6x128_S1x6x2x2048x2048_S1x6x128x2x2048_1_4_3_23_02_01 none (shapeCast _ (Host.dotGeneral dot_S1x2048x1024_S1024x768_S1x2048x768_2_0_01_1_n_n none (A0 V0) (A3 V0)) shapeCasts_S1x2048x768_S1x2048x6x128) (Host.divf (res_main_v123 V0) (broadcastInDim S1x6x2x2048x2048 ![0, 1, 2, 3, 4] bcast_S1x6x2x2048x1_S1x6x2x2048x2048_0_1_2_3_4 (broadcastInDim S1x6x2x2048x1 ![0, 1, 2, 3] bcast_S1x6x2x2048_S1x6x2x2048x1_0_1_2_3 (Host.reduceAdd (res_main_v123 V0) (constant S_ .f32 0x00000000#32) reducesTo_S1x6x2x2048x2048_S1x6x2x2048_d4 h_S_))))) transposes_S1x6x128x2x2048_S1x2048x6x2x128_0_4_1_3_2) (res_main_call3_v5 V0)) (broadcastInDim S1x2048x4x2x128 ![] bcast_S_S1x2048x4x2x128 (constant S_ .f32 0x7FC00000#32))) (broadcastInDim S1x2048x4x2x128 ![0, 1, 2, 3, 4] bcast_S1x2048x4x1x1_S1x2048x4x2x128_0_1_2_3_4 (broadcastInDim S1x2048x4x1x1 ![0, 1, 2] bcast_S1x2048x4_S1x2048x4x1x1_0_1_2 (Host.divf (res_main_v18 V0) (broadcastInDim S1x2048x4 ![0, 1, 2] bcast_S1x2048x1_S1x2048x4_0_1_2 (broadcastInDim S1x2048x1 ![0, 1] bcast_S1x2048_S1x2048x1_0_1 (Host.reduceAdd (res_main_v18 V0) (constant S_ .f32 0x00000000#32) reducesTo_S1x2048x4_S1x2048_d2 h_S_))))))) shapeCasts_S1x2048x4x2x128_S1x2048x1024) (A5 V0)

theorem outR_eq : outR V0 = projected (chosenOut (mixed (shapeCast _ (Host.dotGeneral dot_S1x2048x1024_S1024x768_S1x2048x768_2_0_01_1_n_n none (A0 V0) (A3 V0)) shapeCasts_S1x2048x768_S1x2048x6x128) (res_main_v123 V0)) (res_main_call3_v5 V0)) (Host.divf (res_main_v18 V0) (broadcastInDim S1x2048x4 ![0, 1, 2] bcast_S1x2048x1_S1x2048x4_0_1_2 (broadcastInDim S1x2048x1 ![0, 1] bcast_S1x2048_S1x2048x1_0_1 (Host.reduceAdd (res_main_v18 V0) (constant S_ .f32 0x00000000#32) reducesTo_S1x2048x4_S1x2048_d2 h_S_)))) (A5 V0) := rfl

/-- Cosine of the angle a position turns a coordinate by. -/
def cosR (s : Fin 2048) (d : Fin 128) : EReal := (res_main_v73 (F := Ideal) V0 : FVec Ideal S2048x128 .f32) (ix2 s d)

/-- Sine of the same angle. -/
def sinR (s : Fin 2048) (d : Fin 128) : EReal := (res_main_v74 (F := Ideal) V0 : FVec Ideal S2048x128 .f32) (ix2 s d)

/-- A masked score. -/
def scoreR (s : Fin 2048) (g : Fin 6) (h : Fin 2) (t : Fin 2048) : EReal :=
  masked (t.val ≤ s.val ∧ chosen (lgR V0 t) g.val) ((∑ d : Fin 128, ropeAt (kR V0 t g) (cosR V0 t) (sinR V0 t) d * ropeAt (qR V0 s g h) (cosR V0 s) (sinR V0 s) d) * scale)

/-- One entry of a head's attention output. -/
def headR (s : Fin 2048) (g : Fin 6) (h : Fin 2) (d : Fin 128) : EReal := meanRow (scoreR V0 s g h) (fun t => vR V0 t g d)

theorem v116_val (s : Fin 2048) (g : Fin 6) (h : Fin 2) (t : Fin 2048) : (res_main_v116 (F := Ideal) V0 : FVec Ideal S1x6x2x2048x2048 .f32) (ix5 0 g h s t) = scoreR V0 s g h t := by
  rw [v116_eq]
  refine (scored_val _ _ _ _ s t g h (t.val ≤ s.val) (chosen (lgR V0 t) g.val) (caus_val s t) (memb_val _ t g (lgR V0 t) (fun a => idx_val V0 t a))).trans ?_
  unfold scoreR
  refine congrArg (fun x => masked _ (x * scale)) (Finset.sum_congr rfl fun d _ => ?_)
  rw [rotk_val, rotq_val]
  refine congr (congrArg _ ?_) ?_
  · exact ropeAt_congr (funext fun d => v52_val V0 t g d) rfl rfl rfl
  · exact ropeAt_congr (funext fun d => v50_val V0 s g h d) rfl rfl rfl

theorem v123_val (s : Fin 2048) (g : Fin 6) (h : Fin 2) (t : Fin 2048) : (res_main_v123 (F := Ideal) V0 : FVec Ideal S1x6x2x2048x2048 .f32) (ix5 0 g h s t) = Ideal.exp (scoreR V0 s g h t - top (scoreR V0 s g h)) := by
  refine (exp5 (res_main_v116 V0) g h s t).trans ?_
  rw [v116_val, show (fun t => (res_main_v116 (F := Ideal) V0 : FVec Ideal S1x6x2x2048x2048 .f32) (ix5 0 g h s t)) = scoreR V0 s g h from funext fun t => v116_val V0 s g h t]

theorem outR_val (s : Fin 2048) (n : Fin 1024) : outR V0 (ix3 0 s n) = ∑ a : Fin 4, ∑ k : Fin 256,
    headR V0 s (ord (lgR V0 s) ⟨a.val, by omega⟩) ⟨k.val / 128, by omega⟩ ⟨k.val % 128, by omega⟩ * wt (lgR V0 s) ⟨a.val, by omega⟩ * A5 V0 (ix2 ⟨a.val * 256 + k.val, by omega⟩ n) := by
  rw [outR_eq, projected_val]
  refine Finset.sum_congr rfl fun a _ => Finset.sum_congr rfl fun k _ => ?_
  rw [chosenOut_val _ _ s a _ _ (ord (lgR V0 s) ⟨a.val, by omega⟩) (call_val V0 s a _ _), weight_val, mixed_val]
  refine congrArg (fun x => x * _ * _) ?_
  unfold headR meanRow
  refine Finset.sum_congr rfl fun t _ => ?_
  refine congr (congrArg _ ?_) ?_
  · exact kv_lin (A0 V0) (A3 V0) t _ _
  · simp only [v123_val]

end Cert.ReferenceIdeal.Val
end
-- ==== Proof.AttValue.lean ====
module

public import proofs.«01_k».proof.Proof.AttBody
public import proofs.«01_k».proof.Proof.Formula
public import Idealize.ShloMosaic.Lib.Pipeline.ValueKit

/-! What a segment of the attention computes, as one formula of the query, key, value and bias arrays. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

theorem mask_val : Named.named (F := Ideal) κ "mask" (φ := .f32) 3463342888#32 = ⊥ :=
  IdealRules.named_const.ideal_named_scalar _ _ _ _ rfl

/-- A segment of the attention: 512 query rows from block `q0` on, against the first `n` keys. -/
def seg (n q0 : ℕ) (hn : n ≤ 2048) (hq : q0 ≤ 6) (Q : FVec Ideal S12x2048x128 .f32) (K V : FVec Ideal S6x2048x128 .f32) (B : FVec Ideal S8x1x2048 .f32)
    (g : Fin 6) (r : Fin 512) (l : Fin 256) : EReal :=
  segRow n (q0 * 256 + r.val) (fun d => Q (ix3 ⟨2 * g.val + l.val / 128, by omega⟩ ⟨q0 * 256 + r.val, by omega⟩ d))
    (fun t d => K (ix3 g ⟨t.val, by omega⟩ d)) (fun t d => V (ix3 g ⟨t.val, by omega⟩ d)) (fun t => B (ix3 ⟨g.val, by omega⟩ 0 ⟨t.val, by omega⟩)) ⟨l.val % 128, by omega⟩

end Cert.KernelIdeal.Val
end
-- ==== Proof.HeadEq.lean ====
module

public import proofs.«01_k».proof.Proof.RefFinal
public import proofs.«01_k».proof.Proof.AttValue

/-! A segment's row of a chosen group is the reference's row of that head. -/

@[expose] public section
set_option maxRecDepth 16384
noncomputable section
namespace Cert.ValueEq
open Idealize.ShloMosaic Cert.Form Cert.Pick
open Cert.ReferenceIdeal.Val (A0 A1 A2 A3 lgR qR kR vR cosR sinR scoreR headR)

variable (V0 : Valuation Cert.ReferenceIdeal.τ Cert.ReferenceIdeal.sig (Elt Ideal))

/-- The entry of a query head, for one of twelve heads. -/
def qRow (s : Fin 2048) (h : Fin 12) (d : Fin 128) : EReal :=
  ∑ e : Fin 1024, A0 V0 (ix3 0 s e) * A1 V0 (ix2 e ⟨h.val * 128 + d.val, by omega⟩)

theorem qRow_eq (s : Fin 2048) (g : Fin 6) (h : Fin 2) : qRow V0 s ⟨2 * g.val + h.val, by omega⟩ = qR V0 s g h := by
  funext d
  unfold qRow qR
  refine Finset.sum_congr rfl fun e _ => congrArg (fun i => A0 V0 (ix3 0 s e) * A1 V0 (ix2 e i)) (Fin.ext ?_)
  show (2 * g.val + h.val) * 128 + d.val = g.val * 256 + h.val * 128 + d.val
  omega

theorem seg_head (n q0 : ℕ) (hn : n ≤ 2048) (hq : q0 ≤ 6) (hlen : q0 * 256 + 512 ≤ n)
    (Q : FVec Ideal Cert.KernelIdeal.S12x2048x128 .f32) (K Vv : FVec Ideal Cert.KernelIdeal.S6x2048x128 .f32) (B : FVec Ideal Cert.KernelIdeal.S8x1x2048 .f32)
    (hQ : ∀ h s d, Q (ix3 h s d) = ropeAt (qRow V0 s h) (cosR V0 s) (sinR V0 s) d)
    (hK : ∀ g s d, K (ix3 g s d) = ropeAt (kR V0 s g) (cosR V0 s) (sinR V0 s) d)
    (hV : ∀ g s d, Vv (ix3 g s d) = vR V0 s g d)
    (hB : ∀ (g : Fin 8) t, B (ix3 g 0 t) = masked (chosen (lgR V0 t) g.val) 0)
    (realQ : ∀ s g h d, IsReal (ropeAt (qR V0 s g h) (cosR V0 s) (sinR V0 s) d))
    (realK : ∀ s g d, IsReal (ropeAt (kR V0 s g) (cosR V0 s) (sinR V0 s) d))
    (g : Fin 6) (r : Fin 512) (l : Fin 256) (s : Fin 2048) (hs : s.val = q0 * 256 + r.val) (hc : chosen (lgR V0 s) g.val) :
    Cert.KernelIdeal.Val.seg n q0 hn hq Q K Vv B g r l = headR V0 s g ⟨l.val / 128, by omega⟩ ⟨l.val % 128, by omega⟩ := by
  have es : (⟨q0 * 256 + r.val, by omega⟩ : Fin 2048) = s := Fin.ext hs.symm
  refine Eq.trans ?_ (meanRow_segRow (n := n) (N := 2048) (p := s.val) hn (by omega)
    (ropeAt (qR V0 s g ⟨l.val / 128, by omega⟩) (cosR V0 s) (sinR V0 s))
    (fun t => ropeAt (kR V0 t g) (cosR V0 t) (sinR V0 t)) (fun t => vR V0 t g) (fun t => chosen (lgR V0 t) g.val) ⟨l.val % 128, by omega⟩
    (realQ _ _ _) (fun t => realK t g) scale_real hc).symm
  unfold Cert.KernelIdeal.Val.seg
  refine segRow_congr hs.symm ?_ ?_ ?_ ?_ rfl
  · funext d
    rw [hQ, es]
    exact congrArg (fun f => ropeAt f _ _ d) (qRow_eq V0 _ g ⟨l.val / 128, by omega⟩)
  · funext t d; exact hK _ _ _
  · funext t d; exact hV _ _ _
  · funext t; exact hB _ _

end Cert.ValueEq
end
-- ==== Proof.RouteValue.lean ====
module

public import proofs.«01_k».proof.Proof.RouteBody
public import proofs.«01_k».proof.Proof.AttValue
public import proofs.«01_k».proof.Proof.Rows
public import Idealize.ShloMosaic.Lib.Pipeline.ValueKit

/-! What the router leaves: selections, their weights, and the member mask, as formulas of the logits. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

variable (V : (c : Dev nD) → (b : Ref sig .tc) → Buf (Elt Ideal) ((c : Thread nD τ).loc b))

open Cert.Pick

/-- Logit of a row of a block against a group, through the padded weights. -/
def blg (x0 : FVec Ideal S256x1024 .f32) (x1 : FVec Ideal S1024x128 .f32) (r : Fin 256) (g : Fin 6) : EReal :=
  ∑ e : Fin 1024, x0 (ix2 r e) * x1 (ix2 e ⟨g.val, by omega⟩)

/-- Lane numbers of a block. -/
abbrev io : IVec S256x128 32 := iota .tc S256x128 32 [1] iota_S256x128_d1_w32

theorem absent_val : Named.named (F := Ideal) κ "absent" (φ := .f32) 4048155338#32 = ⊥ :=
  IdealRules.named_const.ideal_named_scalar _ _ _ _ rfl

theorem valid_word {α : Type} (x : Fin 128) (u v : α) :
    Scalar.select (IntOp.cmpi .slt (BitVec.ofNat 32 x.val) 6#32) u v = if x.val < 6 then u else v := by
  revert x;
  have h : ∀ x : Fin 128, IntOp.cmpi .slt (BitVec.ofNat 32 x.val) 6#32 = if x.val < 6 then 1#1 else 0#1 := by decide
  intro x; rw [h x]; by_cases h6 : x.val < 6
  · rw [if_pos h6, if_pos h6]; rfl
  · rw [if_neg h6, if_neg h6]; rfl

theorem lanes_val (x0 : FVec Ideal S256x1024 .f32) (x1 : FVec Ideal S1024x128 .f32) (r : Fin 256) (x : Fin 128) :
    k0_pay7 (F := Ideal) x0 x1 (ix2 r x) = row (blg x0 x1 r) 0 x := by
  rw [row_zero]
  pointwise [k0_pay7, k0_pay6, absent_val, blg]
  rw [valid_word]
  by_cases h6 : x.val < 6
  · rw [if_pos h6, dif_pos h6]
  · rw [if_neg h6, dif_neg h6]

theorem max_val (v : FVec Ideal S256x128 .f32) (ℓ : Fin 6 → EReal) (hℓ : ∀ g, ℓ g ≠ ⊥) (a : Fin 6) (r : Fin 256) (hv : ∀ x : Fin 128, v (ix2 r x) = row ℓ a.val x) (z : Fin 1) :
    k0_pay12 (F := Ideal) v (ix2 r z) = ℓ (ord ℓ a) := by
  pointwise [k0_pay12, neg_inf]
  rw [← row_max ℓ hℓ a]
  exact congrArg (fun f => Finset.fold max ⊥ f Finset.univ) (funext hv)

theorem idx_val (v : FVec Ideal S256x128 .f32) (ℓ : Fin 6 → EReal) (hℓ : ∀ g, ℓ g ≠ ⊥) (a : Fin 6) (r : Fin 256) (hv : ∀ x : Fin 128, v (ix2 r x) = row ℓ a.val x) (z : Fin 1) :
    k0_pay13 (F := Ideal) io v (ix2 r z) = BitVec.ofNat 32 (ord ℓ a).val := by
  pointwise [k0_pay13, k0_pay12, neg_inf]
  have e : (fun x : Fin 128 => v (ix2 r x)) = row ℓ a.val := funext hv
  rw [e, row_max ℓ hℓ a, ← row_first ℓ hℓ a]
  exact congrArg (fun f => Finset.fold IntOp.minsi 2147483647#32 f Finset.univ) (funext fun x => by rw [hv])

theorem next_val (v : FVec Ideal S256x128 .f32) (ℓ : Fin 6 → EReal) (hℓ : ∀ g, ℓ g ≠ ⊥) (a : Fin 6) (r : Fin 256) (hv : ∀ x : Fin 128, v (ix2 r x) = row ℓ a.val x) (x : Fin 128) :
    k0_pay14 (F := Ideal) io v (ix2 r x) = row ℓ (a.val + 1) x := by
  rw [← row_step]
  pointwise [k0_pay14, absent_val]
  rw [hv, show k0_pay13 (F := Ideal) _ v (ix2 r 0) = _ from idx_val v ℓ hℓ a r hv 0]

/-- The four selected groups of a block's row. -/
theorem picks (x0 : FVec Ideal S256x1024 .f32) (x1 : FVec Ideal S1024x128 .f32) (r : Fin 256) (hx : ∀ g, blg x0 x1 r g ≠ ⊥) :
    k0_pay13 (F := Ideal) io (k0_pay7 x0 x1) (ix2 r 0) = BitVec.ofNat 32 (ord (blg x0 x1 r) 0).val
    ∧ k0_pay16 (F := Ideal) io (k0_pay7 x0 x1) (ix2 r 0) = BitVec.ofNat 32 (ord (blg x0 x1 r) 1).val
    ∧ k0_pay19 (F := Ideal) io (k0_pay17 (F := Ideal) io (k0_pay7 x0 x1)) (ix2 r 0) = BitVec.ofNat 32 (ord (blg x0 x1 r) 2).val
    ∧ k0_pay22 (F := Ideal) io (k0_pay17 (F := Ideal) io (k0_pay7 x0 x1)) (ix2 r 0) = BitVec.ofNat 32 (ord (blg x0 x1 r) 3).val := by
  have v0 := lanes_val x0 x1 r
  have v1 := next_val _ _ hx 0 r v0
  have v2 := next_val _ _ hx 1 r v1
  have v3 := next_val _ _ hx 2 r v2
  exact ⟨idx_val _ _ hx 0 r v0 0, idx_val _ _ hx 1 r v1 0, idx_val _ _ hx 2 r v2 0, idx_val _ _ hx 3 r v3 0⟩

theorem tops (x0 : FVec Ideal S256x1024 .f32) (x1 : FVec Ideal S1024x128 .f32) (r : Fin 256) (hx : ∀ g, blg x0 x1 r g ≠ ⊥) :
    k0_pay12 (F := Ideal) (k0_pay7 x0 x1) (ix2 r 0) = blg x0 x1 r (ord (blg x0 x1 r) 0)
    ∧ k0_pay15 (F := Ideal) io (k0_pay7 x0 x1) (ix2 r 0) = blg x0 x1 r (ord (blg x0 x1 r) 1)
    ∧ k0_pay18 (F := Ideal) (k0_pay17 (F := Ideal) io (k0_pay7 x0 x1)) (ix2 r 0) = blg x0 x1 r (ord (blg x0 x1 r) 2)
    ∧ k0_pay21 (F := Ideal) io (k0_pay17 (F := Ideal) io (k0_pay7 x0 x1)) (ix2 r 0) = blg x0 x1 r (ord (blg x0 x1 r) 3) := by
  have v0 := lanes_val x0 x1 r
  have v1 := next_val _ _ hx 0 r v0
  have v2 := next_val _ _ hx 1 r v1
  have v3 := next_val _ _ hx 2 r v2
  exact ⟨max_val _ _ hx 0 r v0 0, max_val _ _ hx 1 r v1 0, max_val _ _ hx 2 r v2 0, max_val _ _ hx 3 r v3 0⟩

theorem four_word {α : Type} (x : Fin 128) (w0 w1 w2 w3 d : α) (w : Fin 6 → α) (h0 : w0 = w 0) (h1 : w1 = w 1) (h2 : w2 = w 2) (h3 : w3 = w 3) :
    Scalar.select (IntOp.cmpi .eq (BitVec.ofNat 32 x.val) 3#32) w3 (Scalar.select (IntOp.cmpi .eq (BitVec.ofNat 32 x.val) 2#32) w2
      (Scalar.select (IntOp.cmpi .eq (BitVec.ofNat 32 x.val) 1#32) w1 (Scalar.select (IntOp.cmpi .eq (BitVec.ofNat 32 x.val) 0#32) w0 d)))
      = four w d x.val := by
  subst h0 h1 h2 h3
  have h : ∀ k : ℕ, k < 128 → IntOp.cmpi .eq (BitVec.ofNat 32 x.val) (BitVec.ofNat 32 k) = if x.val = k then 1#1 else 0#1 := fun k hk => by
    rw [eq_word _ _ (by omega) hk]; simp only [eq_comm]
  rw [h 3 (by omega), h 2 (by omega), h 1 (by omega), h 0 (by omega)]
  unfold four Scalar.select
  by_cases e3 : x.val = 3 <;> by_cases e2 : x.val = 2 <;> by_cases e1 : x.val = 1 <;> by_cases e0 : x.val = 0 <;> simp [*]

theorem kvi_val (x0 : FVec Ideal S256x1024 .f32) (x1 : FVec Ideal S1024x128 .f32) (r : Fin 256) (hx : ∀ g, blg x0 x1 r g ≠ ⊥) (x : Fin 128) :
    k0_pay31 io (k0_pay13 (F := Ideal) io (k0_pay7 x0 x1)) (k0_pay16 (F := Ideal) io (k0_pay7 x0 x1)) (k0_pay19 (F := Ideal) io (k0_pay17 (F := Ideal) io (k0_pay7 x0 x1)))
      (k0_pay22 (F := Ideal) io (k0_pay17 (F := Ideal) io (k0_pay7 x0 x1))) k0_pay29 0#32 (ix2 r x)
      = four (fun a => BitVec.ofNat 32 (ord (blg x0 x1 r) a).val) 0#32 x.val := by
  obtain ⟨h0, h1, h2, h3⟩ := picks x0 x1 r hx
  generalize k0_pay13 (F := Ideal) io (k0_pay7 x0 x1) = w0 at *
  generalize k0_pay16 (F := Ideal) io (k0_pay7 x0 x1) = w1 at *
  generalize k0_pay19 (F := Ideal) io (k0_pay17 (F := Ideal) io (k0_pay7 x0 x1)) = w2 at *
  generalize k0_pay22 (F := Ideal) io (k0_pay17 (F := Ideal) io (k0_pay7 x0 x1)) = w3 at *
  pointwise [k0_pay31, k0_pay29]
  exact four_word x _ _ _ _ _ _ h0 h1 h2 h3

theorem kvw_val (x0 : FVec Ideal S256x1024 .f32) (x1 : FVec Ideal S1024x128 .f32) (r : Fin 256) (hx : ∀ g, blg x0 x1 r g ≠ ⊥) (x : Fin 128) :
    k0_pay32 (F := Ideal) io (k0_pay24 (F := Ideal) (k0_pay12 (F := Ideal) (k0_pay7 x0 x1))) (k0_pay25 (F := Ideal) (k0_pay12 (F := Ideal) (k0_pay7 x0 x1)) (k0_pay15 (F := Ideal) io (k0_pay7 x0 x1)))
      (k0_pay26 (F := Ideal) (k0_pay12 (F := Ideal) (k0_pay7 x0 x1)) (k0_pay17 (F := Ideal) io (k0_pay7 x0 x1)))
      (k0_pay27 (F := Ideal) io (k0_pay12 (F := Ideal) (k0_pay7 x0 x1)) (k0_pay17 (F := Ideal) io (k0_pay7 x0 x1)))
      (k0_pay28 (F := Ideal) io (k0_pay12 (F := Ideal) (k0_pay7 x0 x1)) (k0_pay15 (F := Ideal) io (k0_pay7 x0 x1)) (k0_pay17 (F := Ideal) io (k0_pay7 x0 x1)))
      (k0_pay30 (F := Ideal)) (ix2 r x)
      = four (wt (blg x0 x1 r)) 0 x.val := by
  obtain ⟨h0, h1, h2, h3⟩ := tops x0 x1 r hx
  generalize k0_pay17 (F := Ideal) io (k0_pay7 x0 x1) = V79 at *
  generalize k0_pay12 (F := Ideal) (k0_pay7 x0 x1) = m0 at *
  generalize k0_pay15 (F := Ideal) io (k0_pay7 x0 x1) = m1 at *
  have e0 : k0_pay24 (F := Ideal) m0 (ix2 r 0) = Ideal.exp (blg x0 x1 r (ord (blg x0 x1 r) 0) - blg x0 x1 r (ord (blg x0 x1 r) 0)) := by
    pointwise [k0_pay24, h0]
  have e1 : k0_pay25 (F := Ideal) m0 m1 (ix2 r 0) = Ideal.exp (blg x0 x1 r (ord (blg x0 x1 r) 1) - blg x0 x1 r (ord (blg x0 x1 r) 0)) := by
    pointwise [k0_pay25, h0, h1]
  have e2 : k0_pay26 (F := Ideal) m0 V79 (ix2 r 0) = Ideal.exp (blg x0 x1 r (ord (blg x0 x1 r) 2) - blg x0 x1 r (ord (blg x0 x1 r) 0)) := by
    generalize hk : k0_pay18 (F := Ideal) V79 = m2 at *
    pointwise [k0_pay26, hk, h0, h2]
  have e3 : k0_pay27 (F := Ideal) io m0 V79 (ix2 r 0) = Ideal.exp (blg x0 x1 r (ord (blg x0 x1 r) 3) - blg x0 x1 r (ord (blg x0 x1 r) 0)) := by
    generalize hk : k0_pay21 (F := Ideal) io V79 = m2 at *
    pointwise [k0_pay27, hk, h0, h3]
  have e4 : k0_pay28 (F := Ideal) io m0 m1 V79 (ix2 r 0) = k0_pay24 (F := Ideal) m0 (ix2 r 0) + k0_pay25 (F := Ideal) m0 m1 (ix2 r 0) + k0_pay26 (F := Ideal) m0 V79 (ix2 r 0) + k0_pay27 (F := Ideal) io m0 V79 (ix2 r 0) := rfl
  rw [e0, e1, e2, e3] at e4
  generalize k0_pay24 (F := Ideal) m0 = u0 at *
  generalize k0_pay25 (F := Ideal) m0 m1 = u1 at *
  generalize k0_pay26 (F := Ideal) m0 V79 = u2 at *
  generalize k0_pay27 (F := Ideal) io m0 V79 = u3 at *
  generalize k0_pay28 (F := Ideal) io m0 m1 V79 = u4 at *
  pointwise [k0_pay32, k0_pay30]
  refine four_word x _ _ _ _ _ _ ?_ ?_ ?_ ?_
  · unfold wt; rw [e0, e4]
  · unfold wt; rw [e1, e4]
  · unfold wt; rw [e2, e4]
  · unfold wt; rw [e3, e4]

theorem or_word (p q s u : Prop) [Decidable p] [Decidable q] [Decidable s] [Decidable u] (x y : EReal) :
    Scalar.select ((((0#1 ||| (if p then 1#1 else 0#1)) ||| (if q then 1#1 else 0#1)) ||| (if s then 1#1 else 0#1)) ||| (if u then 1#1 else 0#1)) x y
      = if p ∨ q ∨ s ∨ u then x else y := by
  by_cases p <;> by_cases q <;> by_cases s <;> by_cases u <;> simp [*] <;> rfl

theorem mem_val (x0 : FVec Ideal S256x1024 .f32) (x1 : FVec Ideal S1024x128 .f32) (r : Fin 256) (hx : ∀ g, blg x0 x1 r g ≠ ⊥) (g : Fin 8) :
    k0_pay1 (F := Ideal) (k0_pay13 (F := Ideal) io (k0_pay7 x0 x1)) (k0_pay16 (F := Ideal) io (k0_pay7 x0 x1)) (k0_pay19 (F := Ideal) io (k0_pay17 (F := Ideal) io (k0_pay7 x0 x1)))
      (k0_pay22 (F := Ideal) io (k0_pay17 (F := Ideal) io (k0_pay7 x0 x1))) (iota .tc S256x8 32 [1] iota_S256x8_d1_w32) (ix2 r g)
      = masked (chosen (blg x0 x1 r) g.val) 0 := by
  obtain ⟨h0, h1, h2, h3⟩ := picks x0 x1 r hx
  generalize k0_pay13 (F := Ideal) io (k0_pay7 x0 x1) = w0 at *
  generalize k0_pay16 (F := Ideal) io (k0_pay7 x0 x1) = w1 at *
  generalize k0_pay19 (F := Ideal) io (k0_pay17 (F := Ideal) io (k0_pay7 x0 x1)) = w2 at *
  generalize k0_pay22 (F := Ideal) io (k0_pay17 (F := Ideal) io (k0_pay7 x0 x1)) = w3 at *
  generalize blg x0 x1 r = ℓ at *
  pointwise [k0_pay1, mask_val, h0, h1, h2, h3]
  rw [eq_word _ _ (by omega) (by omega), eq_word _ _ (by omega) (by omega), eq_word _ _ (by omega) (by omega), eq_word _ _ (by omega) (by omega)]
  refine (or_word ((ord ℓ 0).val = g.val) ((ord ℓ 1).val = g.val) ((ord ℓ 2).val = g.val) ((ord ℓ 3).val = g.val) 0 ⊥).trans ?_
  unfold masked chosen
  congr 1

theorem soft_val (x0 : FVec Ideal S256x1024 .f32) (x1 : FVec Ideal S1024x128 .f32) (r : Fin 256) (hx : ∀ g, blg x0 x1 r g ≠ ⊥) (x : Fin 128) :
    k0_pay8 (F := Ideal) x0 x1 (ix2 r x) = softLane (blg x0 x1 r) x := by
  have v0 := lanes_val x0 x1 r
  have hm := max_val _ _ hx 0 r v0 0
  pointwise [k0_pay12, neg_inf] at hm
  pointwise [k0_pay8, k0_pay6, neg_inf, hm]
  simp only [v0, row_zero, valid_word]
  have e : (∑ x : Fin 128, if x.val < 6 then Ideal.exp ((if h : x.val < 6 then blg x0 x1 r ⟨x.val, h⟩ else ⊥) - blg x0 x1 r (ord (blg x0 x1 r) 0)) else 0)
      = ∑ g' : Fin 6, Ideal.exp (blg x0 x1 r g' - blg x0 x1 r (ord (blg x0 x1 r) 0)) := by
    rw [← sum_lanes]
    refine Finset.sum_congr rfl fun x _ => ?_
    by_cases h6 : x.val < 6
    · simp only [if_pos h6, dif_pos h6]
    · simp only [if_neg h6, dif_neg h6]
  rw [e]
  unfold softLane
  by_cases h6 : x.val < 6
  · simp only [if_pos h6, dif_pos h6]
  · simp only [if_neg h6, dif_neg h6]

theorem p_step (x0 : FVec Ideal S256x1024 .f32) (x1 : FVec Ideal S1024x128 .f32) (hx : ∀ r g, blg x0 x1 r g ≠ ⊥) (acc : FVec Ideal S1x128 .f32) (x : Fin 128) :
    k0_pay9 (F := Ideal) x0 x1 acc (ix2 0 x) = acc (ix2 0 x) + ∑ r : Fin 256, softLane (blg x0 x1 r) x := by
  have h := fun r : Fin 256 => soft_val x0 x1 r (hx r) x
  generalize hk : k0_pay8 (F := Ideal) x0 x1 = p8 at *
  pointwise [k0_pay9, hk, h]

theorem bit_val (x : Fin 128) (n : ℕ) (hn : n < 6) :
    FloatOps.sitofp (F := Ideal) FTy.f32 (BitVec.setWidth 32 (IntOp.cmpi CmpIPredicate.eq (BitVec.ofNat 32 x.val) (BitVec.ofNat 32 n)))
      = if n = x.val then (1 : EReal) else 0 := by
  rw [eq_word _ _ (by omega) (by omega)]
  by_cases h : n = x.val
  · rw [if_pos h, if_pos h]; show (((BitVec.setWidth 32 1#1).toInt : ℝ) : EReal) = 1; simp
  · rw [if_neg h, if_neg h]; show (((BitVec.setWidth 32 0#1).toInt : ℝ) : EReal) = 0; simp

theorem f_step (x0 : FVec Ideal S256x1024 .f32) (x1 : FVec Ideal S1024x128 .f32) (hx : ∀ r g, blg x0 x1 r g ≠ ⊥) (acc : FVec Ideal S1x128 .f32) (x : Fin 128) :
    k0_pay23 (F := Ideal) io (k0_pay13 (F := Ideal) io (k0_pay7 x0 x1)) acc (ix2 0 x)
      = acc (ix2 0 x) + ∑ r : Fin 256, if (ord (blg x0 x1 r) 0).val = x.val then (1 : EReal) else 0 := by
  have h := fun r : Fin 256 => (picks x0 x1 r (hx r)).1
  generalize k0_pay13 (F := Ideal) io (k0_pay7 x0 x1) = w at *
  pointwise [k0_pay23, h]
  refine congrArg _ (Finset.sum_congr rfl fun r _ => bit_val x _ (ord (blg x0 x1 r) 0).isLt)

theorem e_step (x0 : FVec Ideal S256x1024 .f32) (x1 : FVec Ideal S1024x128 .f32) (hx : ∀ r g, blg x0 x1 r g ≠ ⊥) (acc : FVec Ideal S1x128 .f32) (x : Fin 128) :
    k0_pay11 (F := Ideal) (k0_pay10 (F := Ideal) x0 x1) acc (ix2 0 x)
      = acc (ix2 0 x) + ∑ r : Fin 256, if x.val = 0 then 0 - ent (blg x0 x1 r) else (0 : EReal) := by
  have h := fun (r : Fin 256) (x : Fin 128) => soft_val x0 x1 r (hx r) x
  generalize hk : k0_pay8 (F := Ideal) x0 x1 = p8 at *
  pointwise [k0_pay11, k0_pay10, k0_pay6, hk, h]
  refine congrArg _ ?_
  have e0 : IntOp.cmpi .eq (BitVec.ofNat 32 x.val) 0#32 = if 0 = x.val then 1#1 else 0#1 := eq_word x.val 0 (by omega) (by omega)
  rw [e0]
  have e : ∀ r : Fin 256, (∑ x : Fin 128, Scalar.select (IntOp.cmpi CmpIPredicate.slt (BitVec.ofNat 32 x.val) 6#32)
      (softLane (blg x0 x1 r) x * Ideal.log (softLane (blg x0 x1 r) x + Ideal.ofBits FTy.f32 841731191#32)) 0) = ent (blg x0 x1 r) := fun r => by
    unfold ent
    rw [← sum_lanes]
    refine Finset.sum_congr rfl fun x _ => ?_
    rw [valid_word]
    by_cases h6 : x.val < 6
    · simp only [if_pos h6, dif_pos h6, softLane, soft]
    · simp only [if_neg h6, dif_neg h6]
  simp only [e, Finset.univ_unique, Finset.sum_singleton]
  by_cases hx0 : x.val = 0
  · simp [hx0, Scalar.select]
  · simp [hx0, Ne.symm hx0, Scalar.select]

theorem aux_pay (p f e : FVec Ideal S1x128 .f32) :
    k0_pay2 (F := Ideal) p f e (ix2 0 0) =
      Ideal.ofBits FTy.f32 1008981770#32 *
        Ideal.div (Ideal.ofBits FTy.f32 1086324736#32 * ∑ x : Fin 128, p (ix2 0 x) * f (ix2 0 x))
          (Ideal.ofBits FTy.f32 1157627904#32 * Ideal.ofBits FTy.f32 1157627904#32) -
      Ideal.ofBits FTy.f32 1008981770#32 * Ideal.div (∑ x : Fin 128, e (ix2 0 x)) (Ideal.ofBits FTy.f32 1157627904#32) := by
  pointwise [k0_pay2]
  simp only [Finset.univ_unique, Finset.sum_singleton]

/-- The load-balancing and entropy terms from the three totals. -/
def auxK (l : Fin 2048 → Fin 6 → EReal) : EReal :=
  Ideal.ofBits FTy.f32 1008981770#32 *
    Ideal.div (Ideal.ofBits FTy.f32 1086324736#32 * ∑ x : Fin 128, (∑ s : Fin 2048, softLane (l s) x) * (∑ s : Fin 2048, if (ord (l s) 0).val = x.val then (1 : EReal) else 0))
      (Ideal.ofBits FTy.f32 1157627904#32 * Ideal.ofBits FTy.f32 1157627904#32) -
  Ideal.ofBits FTy.f32 1008981770#32 * Ideal.div (∑ x : Fin 128, ∑ s : Fin 2048, if x.val = 0 then 0 - ent (l s) else (0 : EReal)) (Ideal.ofBits FTy.f32 1157627904#32)

theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- Logit of a token against a group. -/
def lgK (c : Dev nD) (s : Fin 2048) (g : Fin 6) : EReal := proj (n := 128) (V c main_v0) (V c main_v3) s ⟨g.val, by omega⟩

theorem blg_eq (c : Dev nD) (t : Fin cfg0.N) (r : Fin 256) (s : Fin 2048) (hs : t.val * 256 + r.val = s.val) :
    blg (iblk0 V c 0 t) (iblk0 V c 1 t) r = lgK V c s := by
  funext g
  unfold blg lgK proj
  refine Finset.sum_congr rfl fun e _ => ?_
  rw [← (Fin.ext hs : (⟨t.val * 256 + r.val, hs ▸ s.isLt⟩ : Fin 2048) = s)]
  refine Ideal.mul_congr ?_ ?_ <;> blk_ext [iblk0, idx0 t]

theorem blg_ne (c : Dev nD) (hL : ∀ s g, lgK V c s g ≠ ⊥) (t : Fin cfg0.N) (r : Fin 256) (g : Fin 6) : blg (iblk0 V c 0 t) (iblk0 V c 1 t) r g ≠ ⊥ := by
  have ht : t.val < 8 := t.isLt.trans_eq N_0
  rw [blg_eq V c t r ⟨t.val * 256 + r.val, by omega⟩ rfl]; exact hL _ _

theorem outs_kvi (c : Dev nD) (t : Fin cfg0.N) : (outsAt0 V c t.val t.isLt).1
    = k0_pay31 io (k0_pay13 (F := Ideal) io (k0_pay7 (iblk0 V c 0 t) (iblk0 V c 1 t))) (k0_pay16 (F := Ideal) io (k0_pay7 (iblk0 V c 0 t) (iblk0 V c 1 t))) (k0_pay19 (F := Ideal) io (k0_pay17 (F := Ideal) io (k0_pay7 (iblk0 V c 0 t) (iblk0 V c 1 t))))
      (k0_pay22 (F := Ideal) io (k0_pay17 (F := Ideal) io (k0_pay7 (iblk0 V c 0 t) (iblk0 V c 1 t)))) k0_pay29 0#32 := by
  by_cases h0 : t.val % 8 = 0
  · rw [outsAt0_A V c t h0 (by omega)]; unfold left0_A; dsimp only; frame_out
  by_cases h1 : t.val % 8 = 7
  · rw [outsAt0_C V c t h0 h1]; unfold left0_C; dsimp only; frame_out
  · rw [outsAt0_B V c t h0 h1]; unfold left0_B; dsimp only; frame_out

/-- What the router leaves in window 2. -/
theorem kvi (c : Dev nD) (hL : ∀ s g, lgK V c s g ≠ ⊥) : (dat0 V c).arrAt 2 cfg0.N
    = fun j : S2048x128.Idx => four (fun a => BitVec.ofNat 32 (ord (lgK V c (j 0)) a).val) 0#32 (j 1).val := by
  refine (dat0 V c).arrAt_eq_of_covers 2 _ (by decide +kernel) fun t hf y => ?_
  blk_simp
  rw [after0_2, outs_kvi]
  have e1 : win0_2.index t 1 = 0 := by rw [(idx0 t).2.2.1]; rfl
  have e0 : ((win0_2.blk t).view.emb y 0).val = t.val * 256 + (y 0).val := by
    blk_simp; rw [(idx0 t).2.2.1]; rfl
  rw [e1, Nat.zero_mul, Nat.zero_add, ← blg_eq V c t (y 0) _ e0.symm]
  exact (congrArg _ (by idx_ext : y = ix2 (y 0) (y 1))).trans (kvi_val _ _ (y 0) (fun g => blg_ne V c hL t _ g) (y 1))

theorem outs_kvw (c : Dev nD) (t : Fin cfg0.N) : (outsAt0 V c t.val t.isLt).2.1
    = k0_pay32 (F := Ideal) io (k0_pay24 (F := Ideal) (k0_pay12 (F := Ideal) (k0_pay7 (iblk0 V c 0 t) (iblk0 V c 1 t)))) (k0_pay25 (F := Ideal) (k0_pay12 (F := Ideal) (k0_pay7 (iblk0 V c 0 t) (iblk0 V c 1 t))) (k0_pay15 (F := Ideal) io (k0_pay7 (iblk0 V c 0 t) (iblk0 V c 1 t))))
      (k0_pay26 (F := Ideal) (k0_pay12 (F := Ideal) (k0_pay7 (iblk0 V c 0 t) (iblk0 V c 1 t))) (k0_pay17 (F := Ideal) io (k0_pay7 (iblk0 V c 0 t) (iblk0 V c 1 t))))
      (k0_pay27 (F := Ideal) io (k0_pay12 (F := Ideal) (k0_pay7 (iblk0 V c 0 t) (iblk0 V c 1 t))) (k0_pay17 (F := Ideal) io (k0_pay7 (iblk0 V c 0 t) (iblk0 V c 1 t))))
      (k0_pay28 (F := Ideal) io (k0_pay12 (F := Ideal) (k0_pay7 (iblk0 V c 0 t) (iblk0 V c 1 t))) (k0_pay15 (F := Ideal) io (k0_pay7 (iblk0 V c 0 t) (iblk0 V c 1 t))) (k0_pay17 (F := Ideal) io (k0_pay7 (iblk0 V c 0 t) (iblk0 V c 1 t))))
      (k0_pay30 (F := Ideal)) := by
  by_cases h0 : t.val % 8 = 0
  · rw [outsAt0_A V c t h0 (by omega)]; unfold left0_A; dsimp only; frame_out
  by_cases h1 : t.val % 8 = 7
  · rw [outsAt0_C V c t h0 h1]; unfold left0_C; dsimp only; frame_out
  · rw [outsAt0_B V c t h0 h1]; unfold left0_B; dsimp only; frame_out

/-- What the router leaves in window 3. -/
theorem kvw (c : Dev nD) (hL : ∀ s g, lgK V c s g ≠ ⊥) : (dat0 V c).arrAt 3 cfg0.N
    = fun j : S2048x128.Idx => four (wt (lgK V c (j 0))) 0 (j 1).val := by
  refine (dat0 V c).arrAt_eq_of_covers 3 _ (by decide +kernel) fun t hf y => ?_
  blk_simp
  rw [after0_3, outs_kvw]
  have e1 : win0_3.index t 1 = 0 := by rw [(idx0 t).2.2.2.1]; rfl
  have e0 : ((win0_3.blk t).view.emb y 0).val = t.val * 256 + (y 0).val := by
    blk_simp; rw [(idx0 t).2.2.2.1]; rfl
  rw [e1, Nat.zero_mul, Nat.zero_add, ← blg_eq V c t (y 0) _ e0.symm]
  exact (congrArg _ (by idx_ext : y = ix2 (y 0) (y 1))).trans (kvw_val _ _ (y 0) (fun g => blg_ne V c hL t _ g) (y 1))

theorem outs_mem (c : Dev nD) (t : Fin cfg0.N) : (outsAt0 V c t.val t.isLt).2.2.1
    = k0_pay1 (F := Ideal) (k0_pay13 (F := Ideal) io (k0_pay7 (iblk0 V c 0 t) (iblk0 V c 1 t))) (k0_pay16 (F := Ideal) io (k0_pay7 (iblk0 V c 0 t) (iblk0 V c 1 t))) (k0_pay19 (F := Ideal) io (k0_pay17 (F := Ideal) io (k0_pay7 (iblk0 V c 0 t) (iblk0 V c 1 t))))
      (k0_pay22 (F := Ideal) io (k0_pay17 (F := Ideal) io (k0_pay7 (iblk0 V c 0 t) (iblk0 V c 1 t)))) (iota .tc S256x8 32 [1] iota_S256x8_d1_w32) := by
  by_cases h0 : t.val % 8 = 0
  · rw [outsAt0_A V c t h0 (by omega)]; unfold left0_A; dsimp only; frame_out
  by_cases h1 : t.val % 8 = 7
  · rw [outsAt0_C V c t h0 h1]; unfold left0_C; dsimp only; frame_out
  · rw [outsAt0_B V c t h0 h1]; unfold left0_B; dsimp only; frame_out

/-- What the router leaves in window 4. -/
theorem mem (c : Dev nD) (hL : ∀ s g, lgK V c s g ≠ ⊥) : (dat0 V c).arrAt 4 cfg0.N
    = fun j : S2048x8.Idx => masked (chosen (lgK V c (j 0)) (j 1).val) (0 : EReal) := by
  refine (dat0 V c).arrAt_eq_of_covers 4 _ (by decide +kernel) fun t hf y => ?_
  blk_simp
  rw [after0_4, outs_mem]
  have e1 : win0_4.index t 1 = 0 := by rw [(idx0 t).2.2.2.2.1]; rfl
  have e0 : ((win0_4.blk t).view.emb y 0).val = t.val * 256 + (y 0).val := by
    blk_simp; rw [(idx0 t).2.2.2.2.1]; rfl
  rw [e1, Nat.zero_mul, Nat.zero_add, ← blg_eq V c t (y 0) _ e0.symm]
  exact (congrArg _ (by idx_ext : y = ix2 (y 0) (y 1))).trans (mem_val _ _ (y 0) (fun g => blg_ne V c hL t _ g) (y 1))

/-- The running total `p` after the last block. -/
theorem total_p (c : Dev nD) (hL : ∀ s g, lgK V c s g ≠ ⊥) (x : Fin 128) : (outsAt0 V c t0_7.val t0_7.isLt).2.2.2.2.1 (ix2 0 x)
    = ∑ s : Fin 2048, softLane (lgK V c s) x := by
  rw [Pipeline.eq_sum_fin_of_reset_step_apply_last (fun n h (x : Fin 128) => (outsAt0 V c n h).2.2.2.2.1 (ix2 0 x)) 8 (fun _ => (0 : EReal))
    (fun t x => ∑ r : Fin 256, softLane (blg (iblk0 V c 0 t) (iblk0 V c 1 t) r) x)
    (fun t h x => by
      rw [outsAt0_A V c t h (by omega)]; unfold left0_A; dsimp only; frame_out
      rw [p_step _ _ (fun r g => blg_ne V c hL t r g) _ x]
      refine congrArg (fun u : EReal => u + _) ?_
      pointwise [k0_pay3])
    (fun t h x => by
      by_cases h1 : t.val % 8 = 7
      · rw [outsAt0_C V c t h h1]; unfold left0_C; dsimp only; frame_out
        rw [p_step _ _ (fun r g => blg_ne V c hL t r g) _ x]
        refine congrArg (fun u : EReal => u + _) ?_
        exact congrFun (Memref.IsWhole.read_unread _ _) _
      · rw [outsAt0_B V c t h h1]; unfold left0_B; dsimp only; frame_out
        rw [p_step _ _ (fun r g => blg_ne V c hL t r g) _ x]
        refine congrArg (fun u : EReal => u + _) ?_
        exact congrFun (Memref.IsWhole.read_unread _ _) _)
    (le_of_eq N_0) t0_7 rfl x, zero_add]
  refine Fin.sum_mul_add_congr fun t r hs => ?_
  rw [blg_eq V c t r ⟨t.val * 256 + r.val, hs⟩ rfl]

/-- The running total `f` after the last block. -/
theorem total_f (c : Dev nD) (hL : ∀ s g, lgK V c s g ≠ ⊥) (x : Fin 128) : (outsAt0 V c t0_7.val t0_7.isLt).2.2.2.2.2.1 (ix2 0 x)
    = ∑ s : Fin 2048, if (ord (lgK V c s) 0).val = x.val then (1 : EReal) else 0 := by
  rw [Pipeline.eq_sum_fin_of_reset_step_apply_last (fun n h (x : Fin 128) => (outsAt0 V c n h).2.2.2.2.2.1 (ix2 0 x)) 8 (fun _ => (0 : EReal))
    (fun t x => ∑ r : Fin 256, if (ord (blg (iblk0 V c 0 t) (iblk0 V c 1 t) r) 0).val = x.val then (1 : EReal) else 0)
    (fun t h x => by
      rw [outsAt0_A V c t h (by omega)]; unfold left0_A; dsimp only; frame_out
      rw [f_step _ _ (fun r g => blg_ne V c hL t r g) _ x]
      refine congrArg (fun u : EReal => u + _) ?_
      pointwise [k0_pay4])
    (fun t h x => by
      by_cases h1 : t.val % 8 = 7
      · rw [outsAt0_C V c t h h1]; unfold left0_C; dsimp only; frame_out
        rw [f_step _ _ (fun r g => blg_ne V c hL t r g) _ x]
        refine congrArg (fun u : EReal => u + _) ?_
        exact congrFun (Memref.IsWhole.read_unread _ _) _
      · rw [outsAt0_B V c t h h1]; unfold left0_B; dsimp only; frame_out
        rw [f_step _ _ (fun r g => blg_ne V c hL t r g) _ x]
        refine congrArg (fun u : EReal => u + _) ?_
        exact congrFun (Memref.IsWhole.read_unread _ _) _)
    (le_of_eq N_0) t0_7 rfl x, zero_add]
  refine Fin.sum_mul_add_congr fun t r hs => ?_
  rw [blg_eq V c t r ⟨t.val * 256 + r.val, hs⟩ rfl]

/-- The running total `e` after the last block. -/
theorem total_e (c : Dev nD) (hL : ∀ s g, lgK V c s g ≠ ⊥) (x : Fin 128) : (outsAt0 V c t0_7.val t0_7.isLt).2.2.2.2.2.2 (ix2 0 x)
    = ∑ s : Fin 2048, if x.val = 0 then 0 - ent (lgK V c s) else (0 : EReal) := by
  rw [Pipeline.eq_sum_fin_of_reset_step_apply_last (fun n h (x : Fin 128) => (outsAt0 V c n h).2.2.2.2.2.2 (ix2 0 x)) 8 (fun _ => (0 : EReal))
    (fun t x => ∑ r : Fin 256, if x.val = 0 then 0 - ent (blg (iblk0 V c 0 t) (iblk0 V c 1 t) r) else (0 : EReal))
    (fun t h x => by
      rw [outsAt0_A V c t h (by omega)]; unfold left0_A; dsimp only; frame_out
      rw [e_step _ _ (fun r g => blg_ne V c hL t r g) _ x]
      refine congrArg (fun u : EReal => u + _) ?_
      pointwise [k0_pay5])
    (fun t h x => by
      by_cases h1 : t.val % 8 = 7
      · rw [outsAt0_C V c t h h1]; unfold left0_C; dsimp only; frame_out
        rw [e_step _ _ (fun r g => blg_ne V c hL t r g) _ x]
        refine congrArg (fun u : EReal => u + _) ?_
        exact congrFun (Memref.IsWhole.read_unread _ _) _
      · rw [outsAt0_B V c t h h1]; unfold left0_B; dsimp only; frame_out
        rw [e_step _ _ (fun r g => blg_ne V c hL t r g) _ x]
        refine congrArg (fun u : EReal => u + _) ?_
        exact congrFun (Memref.IsWhole.read_unread _ _) _)
    (le_of_eq N_0) t0_7 rfl x, zero_add]
  refine Fin.sum_mul_add_congr fun t r hs => ?_
  rw [blg_eq V c t r ⟨t.val * 256 + r.val, hs⟩ rfl]

theorem outs_aux (c : Dev nD) (t : Fin cfg0.N) (h1 : t.val % 8 = 7) : (outsAt0 V c t.val t.isLt).2.2.2.1
    = k0_pay2 (F := Ideal) (outsAt0 V c t.val t.isLt).2.2.2.2.1 (outsAt0 V c t.val t.isLt).2.2.2.2.2.1 (outsAt0 V c t.val t.isLt).2.2.2.2.2.2 := by
  rw [outsAt0_C V c t (by omega) h1]; unfold left0_C; dsimp only; frame_out

/-- What the router leaves of the auxiliary loss. -/
theorem aux (c : Dev nD) (hL : ∀ s g, lgK V c s g ≠ ⊥) : (dat0 V c).arrAt 5 cfg0.N = fun j : S1x1.Idx => auxK (lgK V c) := by
  refine (dat0 V c).arrAt_eq_of_after_last 5 t0_7 (by decide +kernel) _ fun j => ?_
  blk_simp
  rw [after0_5, outs_aux V c t0_7 rfl]
  refine Eq.trans (congrArg _ (?_ : _ = ix2 0 0)) ((aux_pay _ _ _).trans ?_)
  · idx_ext
  unfold auxK
  refine congrArg₂ (fun u v : EReal => Ideal.ofBits FTy.f32 1008981770#32 *
    Ideal.div (Ideal.ofBits FTy.f32 1086324736#32 * u)
      (Ideal.ofBits FTy.f32 1157627904#32 * Ideal.ofBits FTy.f32 1157627904#32) -
  Ideal.ofBits FTy.f32 1008981770#32 * Ideal.div v (Ideal.ofBits FTy.f32 1157627904#32)) ?_ ?_
  · exact Finset.sum_congr rfl fun x _ => congrArg₂ (fun u v : EReal => u * v) (total_p V c hL x) (total_f V c hL x)
  · exact Finset.sum_congr rfl fun x _ => total_e V c hL x

end Cert.KernelIdeal.Val
end
-- ==== Proof.ProjValue.lean ====
module

public import proofs.«01_k».proof.Proof.ProjBody
public import proofs.«01_k».proof.Proof.Rows
public import Idealize.ShloMosaic.Lib.Pipeline.ValueKit

/-! What the projections leave: every query, key and value head row as a formula of the inputs. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

variable (V : (c : Dev nD) → (b : Ref sig .tc) → Buf (Elt Ideal) ((c : Thread nD τ).loc b))

set_option maxHeartbeats 4000000 in
theorem block_q (A : Vec Ideal S256x1024 .f32) (B : Vec Ideal S1024x1536 .f32) (C D : Vec Ideal S1024x768 .f32) (E G : Vec Ideal S256x128 .f32) (y : S12x256x128.Idx) :
    out1_6 (F := Ideal) A B C D E G y
      = ropeAt (fun d => ∑ e : Fin 1024, A (ix2 (y 1) e) * B (ix2 e ⟨(y 0).val * 128 + d.val, by have := (y 0).isLt; change _ < 12 at this; omega⟩)) (fun d => E (ix2 (y 1) d)) (fun d => G (ix2 (y 1) d)) (y 2) := by
  unfold out1_6
  idx_vars y
  canon_tiles x h
  all_goals idx_vars x
  all_goals unfold ropeAt
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, h0, h1, h2]
  all_goals
    obtain rfl : y1 = x1 := Fin.ext h1
    obtain rfl : y2 = x2 := Fin.ext h2
    rfl

set_option maxHeartbeats 4000000 in
theorem block_k (A : Vec Ideal S256x1024 .f32) (B : Vec Ideal S1024x1536 .f32) (C D : Vec Ideal S1024x768 .f32) (E G : Vec Ideal S256x128 .f32) (y : S6x256x128.Idx) :
    out1_7 (F := Ideal) A B C D E G y
      = ropeAt (fun d => ∑ e : Fin 1024, A (ix2 (y 1) e) * C (ix2 e ⟨(y 0).val * 128 + d.val, by have := (y 0).isLt; change _ < 6 at this; omega⟩)) (fun d => E (ix2 (y 1) d)) (fun d => G (ix2 (y 1) d)) (y 2) := by
  unfold out1_7
  idx_vars y
  canon_tiles x h
  all_goals idx_vars x
  all_goals unfold ropeAt
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, h0, h1, h2]
  all_goals
    obtain rfl : y1 = x1 := Fin.ext h1
    obtain rfl : y2 = x2 := Fin.ext h2
    rfl

set_option maxHeartbeats 4000000 in
theorem block_v (A : Vec Ideal S256x1024 .f32) (B : Vec Ideal S1024x1536 .f32) (C D : Vec Ideal S1024x768 .f32) (E G : Vec Ideal S256x128 .f32) (y : S6x256x128.Idx) :
    out1_8 (F := Ideal) A B C D E G y
      = ∑ e : Fin 1024, A (ix2 (y 1) e) * D (ix2 e ⟨(y 0).val * 128 + (y 2).val, by have := (y 0).isLt; have h := (y 2).isLt; change _ < 6 at this; change _ < 128 at h; omega⟩) := by
  unfold out1_8
  idx_vars y
  canon_tiles x h
  all_goals idx_vars x
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, h0, h1, h2]
  all_goals
    obtain rfl : y1 = x1 := Fin.ext h1
    obtain rfl : y2 = x2 := Fin.ext h2
    rfl

theorem idx1 : ∀ t : Fin cfg1.N, win1_0.index t = ![t.val, 0] ∧ win1_1.index t = ![0, 0] ∧ win1_2.index t = ![0, 0]
    ∧ win1_3.index t = ![0, 0] ∧ win1_4.index t = ![t.val, 0] ∧ win1_5.index t = ![t.val, 0] ∧ win1_6.index t = ![0, t.val, 0] ∧ win1_7.index t = ![0, t.val, 0] ∧ win1_8.index t = ![0, t.val, 0] :=
  (by decide +kernel : ∀ t : Fin grid1.N, _)

set_option maxHeartbeats 1600000 in
theorem projq (c : Dev nD) : (dat1 V c).arrAt 6 cfg1.N
    = fun j : S12x2048x128.Idx => ropeAt (fun d => proj (n := 1536) (V c main_v0) (V c main_arg1) (j 1) (⟨(j 0).val * 128 + d.val, by have := (j 0).isLt; change _ < 12 at this; omega⟩))
        (fun d => V c main_v23 (ix2 (j 1) d)) (fun d => V c main_v24 (ix2 (j 1) d)) (j 2) := by
  refine (dat1 V c).arrAt_eq_of_covers 6 _ (by decide +kernel) fun t hf y => ?_
  blk_simp
  rw [after1_6]
  refine (block_q _ _ _ _ _ _ y).trans ?_
  refine ropeAt_congr ?_ ?_ ?_ ?_
  · funext d
    unfold proj
    refine Finset.sum_congr rfl fun e _ => ?_
    refine Ideal.mul_congr ?_ ?_ <;> blk_ext [iblk1, idx1 t]
  · funext d; blk_ext [iblk1, idx1 t]
  · funext d; blk_ext [iblk1, idx1 t]
  · apply Fin.ext; blk_simp [idx1 t]

set_option maxHeartbeats 1600000 in
theorem projk (c : Dev nD) : (dat1 V c).arrAt 7 cfg1.N
    = fun j : S6x2048x128.Idx => ropeAt (fun d => proj (n := 768) (V c main_v0) (V c main_arg2) (j 1) (⟨(j 0).val * 128 + d.val, by have := (j 0).isLt; change _ < 6 at this; omega⟩))
        (fun d => V c main_v23 (ix2 (j 1) d)) (fun d => V c main_v24 (ix2 (j 1) d)) (j 2) := by
  refine (dat1 V c).arrAt_eq_of_covers 7 _ (by decide +kernel) fun t hf y => ?_
  blk_simp
  rw [after1_7]
  refine (block_k _ _ _ _ _ _ y).trans ?_
  refine ropeAt_congr ?_ ?_ ?_ ?_
  · funext d
    unfold proj
    refine Finset.sum_congr rfl fun e _ => ?_
    refine Ideal.mul_congr ?_ ?_ <;> blk_ext [iblk1, idx1 t]
  · funext d; blk_ext [iblk1, idx1 t]
  · funext d; blk_ext [iblk1, idx1 t]
  · apply Fin.ext; blk_simp [idx1 t]

set_option maxHeartbeats 1600000 in
theorem projv (c : Dev nD) : (dat1 V c).arrAt 8 cfg1.N
    = fun j : S6x2048x128.Idx => proj (n := 768) (V c main_v0) (V c main_arg3) (j 1) (⟨(j 0).val * 128 + (j 2).val, by have := (j 0).isLt; have h := (j 2).isLt; change _ < 6 at this; change _ < 128 at h; omega⟩) := by
  refine (dat1 V c).arrAt_eq_of_covers 8 _ (by decide +kernel) fun t hf y => ?_
  blk_simp
  rw [after1_8]
  refine (block_v _ _ _ _ _ _ y).trans ?_
  unfold proj
  refine Finset.sum_congr rfl fun e _ => ?_
  refine Ideal.mul_congr ?_ ?_ <;> blk_ext [iblk1, idx1 t]

end Cert.KernelIdeal.Val
end
-- ==== Proof.Inputs.lean ====
module

public import proofs.«01_k».proof.Proof.Kept
public import proofs.«01_k».proof.Proof.HostValue
public import proofs.«01_k».proof.Proof.TableRun
public import proofs.«01_k».proof.Proof.HeadEq
public import proofs.«01_k».proof.Proof.RouteValue
public import proofs.«01_k».proof.Proof.ProjValue

/-! What the router and the projections leave, in terms of the reference's arguments. -/

@[expose] public section
set_option maxRecDepth 16384
noncomputable section
namespace Cert.ValueEq
open Cert.KernelIdeal Cert.KernelIdeal.Gen Cert.KernelIdeal.Whole Cert.KernelIdeal.Kept Idealize.ShloMosaic Idealize.ShloMosaic.TcCoe Idealize.SL.Sem
open Cert.Form Cert.Pick
open Cert.KernelIdeal.Val (lgK)
open Cert.ReferenceIdeal.Val (A0 A1 A2 A3 A4 A5 lgR qR kR vR cosR sinR scoreR headR)

variable (m : (ℓ : Loc nD τ sig) → Buf (Elt Ideal) ℓ) (ρ : Dev nD → PrngReg) (c : Dev nD)
  (V0 : Valuation Cert.ReferenceIdeal.τ Cert.ReferenceIdeal.sig (Elt Ideal))

/-- The reference is given the kernel's arguments. -/
structure Agree : Prop where
  a0 : A0 V0 = m ((c : Thread nD τ).loc main_arg0)
  a1 : A1 V0 = m ((c : Thread nD τ).loc main_arg1)
  a2 : A2 V0 = m ((c : Thread nD τ).loc main_arg2)
  a3 : A3 V0 = m ((c : Thread nD τ).loc main_arg3)
  a4 : A4 V0 = m ((c : Thread nD τ).loc main_arg4)
  a5 : A5 V0 = m ((c : Thread nD τ).loc main_arg5)

/-- The arguments the scores are made of are real numbers. -/
structure Reals : Prop where
  r0 : ∀ i, IsReal (A0 V0 i)
  r1 : ∀ i, IsReal (A1 V0 i)
  r2 : ∀ i, IsReal (A2 V0 i)
  r4 : ∀ i, IsReal (A4 V0 i)

variable {m c V0}

theorem lg_real (R : Reals V0) (s : Fin 2048) (g : Fin 6) : IsReal (lgR V0 s g) := IsReal.sum fun e => (R.r0 _).mul (R.r4 _)

theorem cos_eq (s : Fin 2048) (d : Fin 128) : cosR V0 s d = Host.cos Cert.KernelIdeal.Host.angles (ix2 s d) := rfl

theorem sin_eq (s : Fin 2048) (d : Fin 128) : sinR V0 s d = Host.sin Cert.KernelIdeal.Host.angles (ix2 s d) := rfl

theorem q_real (R : Reals V0) (s : Fin 2048) (g : Fin 6) (h : Fin 2) (d : Fin 128) : IsReal (ropeAt (qR V0 s g h) (cosR V0 s) (sinR V0 s) d) :=
  IsReal.rope (fun d => IsReal.sum fun e => (R.r0 _).mul (R.r1 _)) (fun d => by rw [cos_eq]; exact Cert.KernelIdeal.Host.cos_real s d) (fun d => by rw [sin_eq]; exact Cert.KernelIdeal.Host.sin_real s d) d

theorem k_real (R : Reals V0) (s : Fin 2048) (g : Fin 6) (d : Fin 128) : IsReal (ropeAt (kR V0 s g) (cosR V0 s) (sinR V0 s) d) :=
  IsReal.rope (fun d => IsReal.sum fun e => (R.r0 _).mul (R.r2 _)) (fun d => by rw [cos_eq]; exact Cert.KernelIdeal.Host.cos_real s d) (fun d => by rw [sin_eq]; exact Cert.KernelIdeal.Host.sin_real s d) d

theorem rows_at1 (A : Agree m c V0) (s : Fin 2048) (e : Fin 1024) : (W1 m ρ c (Proc.devRef .tc main_v0) : FVec Ideal S2048x1024 .f32) (ix2 s e) = A0 V0 (ix3 0 s e) := by
  rw [A.a0]
  exact (congrFun (Cert.KernelIdeal.Host.v0_after (W0 m ρ c)) (ix2 s e)).trans (Cert.KernelIdeal.Host.rows_cast _ s e)

theorem wr_at1 (A : Agree m c V0) (e : Fin 1024) (g : Fin 6) : (W1 m ρ c (Proc.devRef .tc main_v3) : FVec Ideal S1024x128 .f32) (ix2 e ⟨g.val, by omega⟩) = A4 V0 (ix2 e g) := by
  rw [A.a4]
  exact (congrFun (Cert.KernelIdeal.Host.v3_after (W0 m ρ c)) (ix2 e ⟨g.val, by omega⟩)).trans (Cert.KernelIdeal.Host.pad_val _ _ rfl _ e g)

/-- The router's logits are the reference's. -/
theorem lg_eq (A : Agree m c V0) : lgK (V1 m ρ) c = lgR V0 := by
  funext s g
  unfold lgK proj lgR
  exact Finset.sum_congr rfl fun e _ => congrArg₂ (fun u v : EReal => u * v) (rows_at1 ρ A s e) (wr_at1 ρ A e g)

theorem lg_bot (A : Agree m c V0) (R : Reals V0) (s : Fin 2048) (g : Fin 6) : lgK (V1 m ρ) c s g ≠ ⊥ := by
  rw [lg_eq ρ A]; exact (lg_real R s g).ne_bot

theorem kvi_at2 (A : Agree m c V0) (R : Reals V0) (s : Fin 2048) (x : Fin 128) : (W2 m ρ c (Proc.devRef .tc main_v4_0) : IVec S2048x128 32) (ix2 s x) = four (fun a => BitVec.ofNat 32 (ord (lgR V0 s) a).val) 0#32 x.val := by
  refine (congrFun ((W2_arr m ρ c 2).trans (Cert.KernelIdeal.Val.kvi (V1 m ρ) c (lg_bot ρ A R))) (ix2 s x)).trans ?_
  show four (fun a => BitVec.ofNat 32 (ord (lgK (V1 m ρ) c s) a).val) 0#32 x.val = _
  rw [lg_eq ρ A]

theorem kvw_at2 (A : Agree m c V0) (R : Reals V0) (s : Fin 2048) (x : Fin 128) : (W2 m ρ c (Proc.devRef .tc main_v4_1) : FVec Ideal S2048x128 .f32) (ix2 s x) = four (wt (lgR V0 s)) 0 x.val := by
  refine (congrFun ((W2_arr m ρ c 3).trans (Cert.KernelIdeal.Val.kvw (V1 m ρ) c (lg_bot ρ A R))) (ix2 s x)).trans ?_
  show four (wt (lgK (V1 m ρ) c s)) 0 x.val = _
  rw [lg_eq ρ A]

theorem mem_at2 (A : Agree m c V0) (R : Reals V0) (s : Fin 2048) (x : Fin 8) : (W2 m ρ c (Proc.devRef .tc main_v4_2) : FVec Ideal S2048x8 .f32) (ix2 s x) = masked (chosen (lgR V0 s) x.val) 0 := by
  refine (congrFun ((W2_arr m ρ c 4).trans (Cert.KernelIdeal.Val.mem (V1 m ρ) c (lg_bot ρ A R))) (ix2 s x)).trans ?_
  show masked (chosen (lgK (V1 m ρ) c s) x.val) 0 = _
  rw [lg_eq ρ A]

theorem aux_at2 (A : Agree m c V0) (R : Reals V0) : (W2 m ρ c (Proc.devRef .tc main_v4_3) : FVec Ideal S1x1 .f32) (ix2 0 0) = Cert.KernelIdeal.Val.auxK (lgR V0) := by
  refine (congrFun ((W2_arr m ρ c 5).trans (Cert.KernelIdeal.Val.aux (V1 m ρ) c (lg_bot ρ A R))) (ix2 0 0)).trans ?_
  show Cert.KernelIdeal.Val.auxK (lgK (V1 m ρ) c) = _
  rw [lg_eq ρ A]

theorem rows_at3 (A : Agree m c V0) (s : Fin 2048) (e : Fin 1024) : (V3 m ρ c main_v0 : FVec Ideal S2048x1024 .f32) (ix2 s e) = A0 V0 (ix3 0 s e) := by
  have h : W3 m ρ c (Proc.devRef .tc main_v0) = W1 m ρ c (Proc.devRef .tc main_v0) :=
    (W3_of m ρ c main_v0 (by decide +kernel)).trans (W2_of m ρ c main_v0 (by decide +kernel))
  exact (congrFun h (ix2 s e)).trans (rows_at1 ρ A s e)

theorem cos_at3 (s : Fin 2048) : (fun d : Fin 128 => (V3 m ρ c main_v23 : FVec Ideal S2048x128 .f32) (ix2 s d)) = cosR V0 s := by
  funext d
  exact (congrFun (Cert.KernelIdeal.Host.v23_after (W2 m ρ c)) (ix2 s d)).trans (cos_eq s d).symm

theorem sin_at3 (s : Fin 2048) : (fun d : Fin 128 => (V3 m ρ c main_v24 : FVec Ideal S2048x128 .f32) (ix2 s d)) = sinR V0 s := by
  funext d
  exact (congrFun (Cert.KernelIdeal.Host.v24_after (W2 m ρ c)) (ix2 s d)).trans (sin_eq s d).symm

theorem proj_eq {n : ℕ} (A : Agree m c V0) (W W' : FVec Ideal ⟨2, ![1024, n]⟩ .f32) (h : W = W') (s : Fin 2048) (k : Fin n) :
    proj (V3 m ρ c main_v0) W s k = ∑ e : Fin 1024, A0 V0 (ix3 0 s e) * W' (ix2 e k) := by
  subst h
  unfold proj
  exact Finset.sum_congr rfl fun e _ => congrArg (fun u : EReal => u * _) (rows_at3 ρ A s e)

theorem q_at4 (A : Agree m c V0) (h : Fin 12) (s : Fin 2048) (d : Fin 128) : (W4 m ρ c (Proc.devRef .tc main_v25_0) : FVec Ideal S12x2048x128 .f32) (ix3 h s d) = ropeAt (qRow V0 s h) (cosR V0 s) (sinR V0 s) d := by
  refine (congrFun ((W4_arr m ρ c 6).trans (Cert.KernelIdeal.Val.projq (V3 m ρ) c)) (ix3 h s d)).trans ?_
  refine ropeAt_congr (funext fun d => ?_) (cos_at3 ρ s) (sin_at3 ρ s) rfl
  exact proj_eq ρ A _ _ ((W3_args m ρ c main_arg1 (by decide)).trans A.a1.symm) s _

theorem k_at4 (A : Agree m c V0) (g : Fin 6) (s : Fin 2048) (d : Fin 128) : (W4 m ρ c (Proc.devRef .tc main_v25_1) : FVec Ideal S6x2048x128 .f32) (ix3 g s d) = ropeAt (kR V0 s g) (cosR V0 s) (sinR V0 s) d := by
  refine (congrFun ((W4_arr m ρ c 7).trans (Cert.KernelIdeal.Val.projk (V3 m ρ) c)) (ix3 g s d)).trans ?_
  refine ropeAt_congr (funext fun d => ?_) (cos_at3 ρ s) (sin_at3 ρ s) rfl
  exact proj_eq ρ A _ _ ((W3_args m ρ c main_arg2 (by decide)).trans A.a2.symm) s _

theorem v_at4 (A : Agree m c V0) (g : Fin 6) (s : Fin 2048) (d : Fin 128) : (W4 m ρ c (Proc.devRef .tc main_v25_2) : FVec Ideal S6x2048x128 .f32) (ix3 g s d) = vR V0 s g d := by
  refine (congrFun ((W4_arr m ρ c 8).trans (Cert.KernelIdeal.Val.projv (V3 m ρ) c)) (ix3 g s d)).trans ?_
  exact proj_eq ρ A _ _ ((W3_args m ρ c main_arg3 (by decide)).trans A.a3.symm) s _

theorem b_at5 (A : Agree m c V0) (R : Reals V0) (g : Fin 8) (t : Fin 2048) : (W5 m ρ c (Proc.devRef .tc main_v27) : FVec Ideal S8x1x2048 .f32) (ix3 g 0 t) = masked (chosen (lgR V0 t) g.val) 0 := by
  refine (Cert.KernelIdeal.Host.v27_after (W4 m ρ c) g t).trans ?_
  exact (congrFun (routed_at4 m ρ c main_v4_2 (by decide)) (ix2 t g)).trans (mem_at2 ρ A R t g)

end Cert.ValueEq
end
-- ==== Proof.AuxLaw.lean ====
module

public import proofs.«01_k».proof.Proof.Laws

/-! The routing loss over padded lanes is the loss over the six groups, for real logits. -/

@[expose] public section
set_option maxRecDepth 16384
noncomputable section
namespace Cert.Form
open Idealize.ShloMosaic Cert.Pick

theorem lit_rows : Ideal.ofBits .f32 1157627904#32 = ((2048 : ℝ) : EReal) := by
  simp [Ideal.ofBits, Ideal.ieee, -EReal.coe_mul]; norm_num

theorem lit_six : Ideal.ofBits .f32 1086324736#32 = ((6 : ℝ) : EReal) := by
  simp [Ideal.ofBits, Ideal.ieee, -EReal.coe_mul]; norm_num

theorem lit_coef : IsReal (Ideal.ofBits .f32 1008981770#32) := by
  simp [Ideal.ofBits, Ideal.ieee, -EReal.coe_mul]; exact ⟨_, rfl⟩

theorem lit_shift : ∃ e : ℝ, 0 < e ∧ Ideal.ofBits .f32 841731191#32 = (e : EReal) := by
  refine ⟨11258999 * 2 ^ (-50 : ℤ), by positivity, ?_⟩
  simp [Ideal.ofBits, Ideal.ieee, -EReal.coe_mul]

/-- A routing probability of real logits is a real number, not negative. -/
theorem soft_real (ℓ : Fin 6 → EReal) (h : ∀ g, IsReal (ℓ g)) (g : Fin 6) : ∃ p : ℝ, 0 ≤ p ∧ soft ℓ g = p := by
  choose r hr using h
  have e : ∀ g', Ideal.exp (ℓ g' - ℓ (ord ℓ 0)) = ((Real.exp (r g' - r (ord ℓ 0)) : ℝ) : EReal) := by
    intro g'
    rw [hr g', hr (ord ℓ 0), ← EReal.coe_sub]; rfl
  have hs : 0 < ∑ g' : Fin 6, Real.exp (r g' - r (ord ℓ 0)) := Finset.sum_pos (fun _ _ => Real.exp_pos _) ⟨0, Finset.mem_univ _⟩
  unfold soft
  rw [Finset.sum_congr rfl fun g' _ => e g', e g, coe_sum, Ideal.div_coe hs.ne', ← EReal.coe_mul]
  exact ⟨_, mul_nonneg (Real.exp_pos _).le (one_div_pos.mpr hs).le, rfl⟩

theorem ent_real (ℓ : Fin 6 → EReal) (h : ∀ g, IsReal (ℓ g)) : IsReal (ent ℓ) := by
  unfold ent
  refine IsReal.sum fun g => ?_
  obtain ⟨p, hp, e⟩ := soft_real ℓ h g
  obtain ⟨d, hd, e'⟩ := lit_shift
  rw [e, e', ← EReal.coe_add]
  refine IsReal.mul ⟨_, rfl⟩ ?_
  show IsReal (if p + d ≤ 0 then ⊥ else ((Real.log (p + d) : ℝ) : EReal))
  rw [if_neg (by linarith)]
  exact ⟨_, rfl⟩

theorem first_coe (l : Fin 2048 → Fin 6 → EReal) (x : ℕ) : (∑ s : Fin 2048, if (ord (l s) 0).val = x then (1 : EReal) else 0) = ((∑ s : Fin 2048, if (ord (l s) 0).val = x then (1 : ℝ) else 0 : ℝ) : EReal) := by
  rw [← coe_sum]
  refine Finset.sum_congr rfl fun s _ => ?_
  split <;> rfl

theorem aux_law (l : Fin 2048 → Fin 6 → EReal) (hl : ∀ s g, IsReal (l s g)) :
    Ideal.ofBits FTy.f32 1008981770#32 *
      Ideal.div (Ideal.ofBits FTy.f32 1086324736#32 * ∑ x : Fin 128, (∑ s : Fin 2048, softLane (l s) x) * (∑ s : Fin 2048, if (ord (l s) 0).val = x.val then (1 : EReal) else 0))
        (Ideal.ofBits FTy.f32 1157627904#32 * Ideal.ofBits FTy.f32 1157627904#32) -
      Ideal.ofBits FTy.f32 1008981770#32 * Ideal.div (∑ x : Fin 128, ∑ s : Fin 2048, if x.val = 0 then 0 - ent (l s) else (0 : EReal)) (Ideal.ofBits FTy.f32 1157627904#32)
    = Ideal.ofBits .f32 1008981770#32 * (Ideal.ofBits .f32 1086324736#32 * ∑ x : Fin 6, Ideal.div (∑ s : Fin 2048, if (ord (l s) 0).val = x.val then (1 : EReal) else 0) (Ideal.ofBits .f32 1157627904#32) * Ideal.div (∑ s : Fin 2048, soft (l s) x) (Ideal.ofBits .f32 1157627904#32))
      + Ideal.ofBits .f32 1008981770#32 * -Ideal.div (∑ s : Fin 2048, -ent (l s)) (Ideal.ofBits .f32 1157627904#32) := by
  have lanes : (∑ x : Fin 128, (∑ s : Fin 2048, softLane (l s) x) * (∑ s : Fin 2048, if (ord (l s) 0).val = x.val then (1 : EReal) else 0))
      = ∑ g : Fin 6, (∑ s : Fin 2048, soft (l s) g) * (∑ s : Fin 2048, if (ord (l s) 0).val = g.val then (1 : EReal) else 0) := by
    rw [← sum_lanes (fun g => (∑ s : Fin 2048, soft (l s) g) * (∑ s : Fin 2048, if (ord (l s) 0).val = g.val then (1 : EReal) else 0))]
    refine Finset.sum_congr rfl fun x _ => ?_
    by_cases hx : x.val < 6
    · rw [dif_pos hx]
      refine congrArg (· * _) (Finset.sum_congr rfl fun s _ => ?_)
      unfold softLane; rw [dif_pos hx]; rfl
    · rw [dif_neg hx]
      rw [Finset.sum_eq_zero (s := Finset.univ) (f := fun s : Fin 2048 => if (ord (l s) 0).val = x.val then (1 : EReal) else 0) fun s _ => if_neg (by omega), mul_zero]
  have lane0 : (∑ x : Fin 128, ∑ s : Fin 2048, if x.val = 0 then 0 - ent (l s) else (0 : EReal)) = ∑ s : Fin 2048, -ent (l s) := by
    refine (Finset.sum_eq_single (0 : Fin 128) (fun x _ hx => Finset.sum_eq_zero fun s _ => if_neg (fun e => hx (Fin.ext e))) (fun h => absurd (Finset.mem_univ _) h)).trans ?_
    exact Finset.sum_congr rfl fun s _ => (if_pos rfl).trans (zero_sub _)
  rw [lanes, lane0]
  choose p hp0 hp using fun s g => soft_real (l s) (hl s) g
  choose e he using fun s => ent_real (l s) (hl s)
  obtain ⟨c, hc⟩ := lit_coef
  have hP : ∀ g : Fin 6, (∑ s : Fin 2048, soft (l s) g) = ((∑ s : Fin 2048, p s g : ℝ) : EReal) := fun g => by
    rw [← coe_sum]; exact Finset.sum_congr rfl fun s _ => hp s g
  have hE : (∑ s : Fin 2048, -ent (l s)) = ((∑ s : Fin 2048, -e s : ℝ) : EReal) := by
    rw [← coe_sum]; exact Finset.sum_congr rfl fun s _ => by rw [he s, EReal.coe_neg]
  rw [hE, hc, lit_rows, lit_six]
  simp only [hP, first_coe]
  generalize (∑ s : Fin 2048, -e s) = E
  generalize hPP : (fun g : Fin 6 => ∑ s : Fin 2048, p s g) = P
  generalize hFF : (fun g : Fin 6 => ∑ s : Fin 2048, if (ord (l s) 0).val = g.val then (1 : ℝ) else 0) = F
  have h1 : ∀ g : Fin 6, (∑ s : Fin 2048, p s g) = P g := fun g => congrFun hPP g
  have h2 : ∀ g : Fin 6, (∑ s : Fin 2048, if (ord (l s) 0).val = g.val then (1 : ℝ) else 0) = F g := fun g => congrFun hFF g
  simp only [h1, h2]
  rw [← EReal.coe_mul 2048 2048]
  simp only [Ideal.div_coe (show (2048 : ℝ) ≠ 0 by norm_num), Ideal.div_coe (show (2048 : ℝ) * 2048 ≠ 0 by norm_num), ← EReal.coe_mul, coe_sum, ← EReal.coe_neg, ← EReal.coe_sub, ← EReal.coe_add]
  refine congrArg _ ?_
  simp only [Fin.sum_univ_succ, Fin.sum_univ_zero]
  ring

end Cert.Form
end
-- ==== Proof.Segment1Value.lean ====
module

public import proofs.«01_k».proof.Proof.AttValue
public import Idealize.ShloMosaic.Lib.Pipeline.ValueKit

/-! Segment 1 of the attention: the array it leaves. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

variable (V : (c : Dev nD) → (b : Ref sig .tc) → Buf (Elt Ideal) ((c : Thread nD τ).loc b))

theorem head0_2 (i : grid2.Coords) (K V : FVec Ideal S1x512x128 .f32) (B : FVec Ideal S1x1x512 .f32) (Q : FVec Ideal S1x256x128 .f32) (z : Fin 1) (r : Fin 256) (d : Fin 128) :
    k2_pay6 (F := Ideal) i K V B Q (ix3 z r d)
      = segRow 512 (((i 1).val) * 256 + r) (fun d => Q (ix3 0 r d)) (fun t d => K (ix3 0 t d)) (fun t d => V (ix3 0 t d)) (fun t => B (ix3 0 0 t)) d := by
  pointwise [k2_pay6, k2_pay2, k2_pay3, k2_pay4, k2_pay5, mask_val, neg_inf]
  have h := fun (x : Fin 512) y => causal_word x.val r.val (i 1).val 0 (by omega) (by omega) (i 1).isLt (by omega) y
  simp only [h, Nat.zero_add]
  rfl

theorem head1_2 (i : grid2.Coords) (K V : FVec Ideal S1x512x128 .f32) (B : FVec Ideal S1x1x512 .f32) (Q : FVec Ideal S1x256x128 .f32) (z : Fin 1) (r : Fin 256) (d : Fin 128) :
    k2_pay1 (F := Ideal) (k2_pay2 K) (k2_pay3 V) (k2_pay4 B) (k2_pay5 i) Q (ix3 z r d)
      = segRow 512 (((i 1).val) * 256 + r) (fun d => Q (ix3 0 r d)) (fun t d => K (ix3 0 t d)) (fun t d => V (ix3 0 t d)) (fun t => B (ix3 0 0 t)) d := by
  pointwise [k2_pay1, k2_pay2, k2_pay3, k2_pay4, k2_pay5, mask_val, neg_inf]
  have h := fun (x : Fin 512) y => causal_word x.val r.val (i 1).val 0 (by omega) (by omega) (i 1).isLt (by omega) y
  simp only [h, Nat.zero_add]
  rfl

theorem block_2 (i : grid2.Coords) (x0 : Vec Ideal S2x256x128 .f32) (x1 x2 : Vec Ideal S1x512x128 .f32) (x3 : Vec Ideal S1x1x512 .f32) (y : S1x256x256.Idx) :
    out2_4 (F := Ideal) i x0 x1 x2 x3 y
      = segRow 512 (((i 1).val) * 256 + (y 1).val) (fun d => x0 (ix3 ⟨(y 2).val / 128, by have := (y 2).isLt; change _ < 256 at this; omega⟩ (y 1) d)) (fun t d => x1 (ix3 0 t d)) (fun t d => x2 (ix3 0 t d))
          (fun t => x3 (ix3 0 0 t)) ⟨(y 2).val % 128, Nat.mod_lt _ (by norm_num)⟩ := by
  unfold out2_4
  canon_tiles x h
  · rw [eq_ix3 x]
    refine (head1_2 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega
  · rw [eq_ix3 x]
    refine (head0_2 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega

theorem idx2 : ∀ t : Fin cfg2.N, win2_0.index t = ![(grid2.coords t 0).val, 0 + (grid2.coords t 1).val, 0] ∧ win2_1.index t = ![(grid2.coords t 0).val, 0, 0]
    ∧ win2_2.index t = ![(grid2.coords t 0).val, 0, 0] ∧ win2_3.index t = ![(grid2.coords t 0).val, 0, 0] ∧ win2_4.index t = ![(grid2.coords t 0).val, (grid2.coords t 1).val, 0] :=
  (by decide +kernel : ∀ t : Fin grid2.N, _)

set_option maxHeartbeats 1600000 in
theorem att2 (c : Dev nD) : (dat2 V c).arrAt 4 cfg2.N
    = fun j : S6x512x256.Idx => seg 512 0 (by norm_num) (by norm_num) (V c main_v25_0) (V c main_v25_1) (V c main_v25_2) (V c main_v27) (j 0) (j 1) (j 2) := by
  refine (dat2 V c).arrAt_eq_of_covers 4 _ (by decide +kernel) fun t hf y => ?_
  blk_simp
  rw [after2_4]
  refine (block_2 _ _ _ _ _ y).trans ?_
  unfold seg
  refine segRow_congr ?_ ?_ ?_ ?_ ?_ ?_
  · blk_simp [idx2 t]
  · funext d; blk_ext [iblk2, idx2 t]
  · funext u d; blk_ext [iblk2, idx2 t]
  · funext u d; blk_ext [iblk2, idx2 t]
  · funext u; blk_ext [iblk2, idx2 t]
  · apply Fin.ext; blk_simp [idx2 t]

end Cert.KernelIdeal.Val
end
-- ==== Proof.Segment2Value.lean ====
module

public import proofs.«01_k».proof.Proof.AttValue
public import Idealize.ShloMosaic.Lib.Pipeline.ValueKit

/-! Segment 2 of the attention: the array it leaves. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

variable (V : (c : Dev nD) → (b : Ref sig .tc) → Buf (Elt Ideal) ((c : Thread nD τ).loc b))

theorem head0_3 (i : grid3.Coords) (K V : FVec Ideal S1x1024x128 .f32) (B : FVec Ideal S1x1x1024 .f32) (Q : FVec Ideal S1x256x128 .f32) (z : Fin 1) (r : Fin 256) (d : Fin 128) :
    k3_pay6 (F := Ideal) i K V B Q (ix3 z r d)
      = segRow 1024 ((2 + (i 1).val) * 256 + r) (fun d => Q (ix3 0 r d)) (fun t d => K (ix3 0 t d)) (fun t d => V (ix3 0 t d)) (fun t => B (ix3 0 0 t)) d := by
  pointwise [k3_pay6, k3_pay2, k3_pay3, k3_pay4, k3_pay5, mask_val, neg_inf]
  have h := fun (x : Fin 1024) y => causal_word x.val r.val (i 1).val 2 (by omega) (by omega) (i 1).isLt (by omega) y
  simp only [h]
  rfl

theorem head1_3 (i : grid3.Coords) (K V : FVec Ideal S1x1024x128 .f32) (B : FVec Ideal S1x1x1024 .f32) (Q : FVec Ideal S1x256x128 .f32) (z : Fin 1) (r : Fin 256) (d : Fin 128) :
    k3_pay1 (F := Ideal) (k3_pay2 K) (k3_pay3 V) (k3_pay4 B) (k3_pay5 i) Q (ix3 z r d)
      = segRow 1024 ((2 + (i 1).val) * 256 + r) (fun d => Q (ix3 0 r d)) (fun t d => K (ix3 0 t d)) (fun t d => V (ix3 0 t d)) (fun t => B (ix3 0 0 t)) d := by
  pointwise [k3_pay1, k3_pay2, k3_pay3, k3_pay4, k3_pay5, mask_val, neg_inf]
  have h := fun (x : Fin 1024) y => causal_word x.val r.val (i 1).val 2 (by omega) (by omega) (i 1).isLt (by omega) y
  simp only [h]
  rfl

theorem block_3 (i : grid3.Coords) (x0 : Vec Ideal S2x256x128 .f32) (x1 x2 : Vec Ideal S1x1024x128 .f32) (x3 : Vec Ideal S1x1x1024 .f32) (y : S1x256x256.Idx) :
    out3_4 (F := Ideal) i x0 x1 x2 x3 y
      = segRow 1024 ((2 + (i 1).val) * 256 + (y 1).val) (fun d => x0 (ix3 ⟨(y 2).val / 128, by have := (y 2).isLt; change _ < 256 at this; omega⟩ (y 1) d)) (fun t d => x1 (ix3 0 t d)) (fun t d => x2 (ix3 0 t d))
          (fun t => x3 (ix3 0 0 t)) ⟨(y 2).val % 128, Nat.mod_lt _ (by norm_num)⟩ := by
  unfold out3_4
  canon_tiles x h
  · rw [eq_ix3 x]
    refine (head1_3 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega
  · rw [eq_ix3 x]
    refine (head0_3 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega

theorem idx3 : ∀ t : Fin cfg3.N, win3_0.index t = ![(grid3.coords t 0).val, 2 + (grid3.coords t 1).val, 0] ∧ win3_1.index t = ![(grid3.coords t 0).val, 0, 0]
    ∧ win3_2.index t = ![(grid3.coords t 0).val, 0, 0] ∧ win3_3.index t = ![(grid3.coords t 0).val, 0, 0] ∧ win3_4.index t = ![(grid3.coords t 0).val, (grid3.coords t 1).val, 0] :=
  (by decide +kernel : ∀ t : Fin grid3.N, _)

set_option maxHeartbeats 1600000 in
theorem att3 (c : Dev nD) : (dat3 V c).arrAt 4 cfg3.N
    = fun j : S6x512x256.Idx => seg 1024 2 (by norm_num) (by norm_num) (V c main_v25_0) (V c main_v25_1) (V c main_v25_2) (V c main_v27) (j 0) (j 1) (j 2) := by
  refine (dat3 V c).arrAt_eq_of_covers 4 _ (by decide +kernel) fun t hf y => ?_
  blk_simp
  rw [after3_4]
  refine (block_3 _ _ _ _ _ y).trans ?_
  unfold seg
  refine segRow_congr ?_ ?_ ?_ ?_ ?_ ?_
  · blk_simp [idx3 t]; omega
  · funext d; blk_ext [iblk3, idx3 t]
  · funext u d; blk_ext [iblk3, idx3 t]
  · funext u d; blk_ext [iblk3, idx3 t]
  · funext u; blk_ext [iblk3, idx3 t]
  · apply Fin.ext; blk_simp [idx3 t]

end Cert.KernelIdeal.Val
end
-- ==== Proof.Segment3Value.lean ====
module

public import proofs.«01_k».proof.Proof.AttValue
public import Idealize.ShloMosaic.Lib.Pipeline.ValueKit

/-! Segment 3 of the attention: the array it leaves. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

variable (V : (c : Dev nD) → (b : Ref sig .tc) → Buf (Elt Ideal) ((c : Thread nD τ).loc b))

theorem head0_4 (i : grid4.Coords) (K V : FVec Ideal S1x1536x128 .f32) (B : FVec Ideal S1x1x1536 .f32) (Q : FVec Ideal S1x256x128 .f32) (z : Fin 1) (r : Fin 256) (d : Fin 128) :
    k4_pay6 (F := Ideal) i K V B Q (ix3 z r d)
      = segRow 1536 ((4 + (i 1).val) * 256 + r) (fun d => Q (ix3 0 r d)) (fun t d => K (ix3 0 t d)) (fun t d => V (ix3 0 t d)) (fun t => B (ix3 0 0 t)) d := by
  pointwise [k4_pay6, k4_pay2, k4_pay3, k4_pay4, k4_pay5, mask_val, neg_inf]
  have h := fun (x : Fin 1536) y => causal_word x.val r.val (i 1).val 4 (by omega) (by omega) (i 1).isLt (by omega) y
  simp only [h]
  rfl

theorem head1_4 (i : grid4.Coords) (K V : FVec Ideal S1x1536x128 .f32) (B : FVec Ideal S1x1x1536 .f32) (Q : FVec Ideal S1x256x128 .f32) (z : Fin 1) (r : Fin 256) (d : Fin 128) :
    k4_pay1 (F := Ideal) (k4_pay2 K) (k4_pay3 V) (k4_pay4 B) (k4_pay5 i) Q (ix3 z r d)
      = segRow 1536 ((4 + (i 1).val) * 256 + r) (fun d => Q (ix3 0 r d)) (fun t d => K (ix3 0 t d)) (fun t d => V (ix3 0 t d)) (fun t => B (ix3 0 0 t)) d := by
  pointwise [k4_pay1, k4_pay2, k4_pay3, k4_pay4, k4_pay5, mask_val, neg_inf]
  have h := fun (x : Fin 1536) y => causal_word x.val r.val (i 1).val 4 (by omega) (by omega) (i 1).isLt (by omega) y
  simp only [h]
  rfl

theorem block_4 (i : grid4.Coords) (x0 : Vec Ideal S2x256x128 .f32) (x1 x2 : Vec Ideal S1x1536x128 .f32) (x3 : Vec Ideal S1x1x1536 .f32) (y : S1x256x256.Idx) :
    out4_4 (F := Ideal) i x0 x1 x2 x3 y
      = segRow 1536 ((4 + (i 1).val) * 256 + (y 1).val) (fun d => x0 (ix3 ⟨(y 2).val / 128, by have := (y 2).isLt; change _ < 256 at this; omega⟩ (y 1) d)) (fun t d => x1 (ix3 0 t d)) (fun t d => x2 (ix3 0 t d))
          (fun t => x3 (ix3 0 0 t)) ⟨(y 2).val % 128, Nat.mod_lt _ (by norm_num)⟩ := by
  unfold out4_4
  canon_tiles x h
  · rw [eq_ix3 x]
    refine (head1_4 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega
  · rw [eq_ix3 x]
    refine (head0_4 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega

theorem idx4 : ∀ t : Fin cfg4.N, win4_0.index t = ![(grid4.coords t 0).val, 4 + (grid4.coords t 1).val, 0] ∧ win4_1.index t = ![(grid4.coords t 0).val, 0, 0]
    ∧ win4_2.index t = ![(grid4.coords t 0).val, 0, 0] ∧ win4_3.index t = ![(grid4.coords t 0).val, 0, 0] ∧ win4_4.index t = ![(grid4.coords t 0).val, (grid4.coords t 1).val, 0] :=
  (by decide +kernel : ∀ t : Fin grid4.N, _)

set_option maxHeartbeats 1600000 in
theorem att4 (c : Dev nD) : (dat4 V c).arrAt 4 cfg4.N
    = fun j : S6x512x256.Idx => seg 1536 4 (by norm_num) (by norm_num) (V c main_v25_0) (V c main_v25_1) (V c main_v25_2) (V c main_v27) (j 0) (j 1) (j 2) := by
  refine (dat4 V c).arrAt_eq_of_covers 4 _ (by decide +kernel) fun t hf y => ?_
  blk_simp
  rw [after4_4]
  refine (block_4 _ _ _ _ _ y).trans ?_
  unfold seg
  refine segRow_congr ?_ ?_ ?_ ?_ ?_ ?_
  · blk_simp [idx4 t]; omega
  · funext d; blk_ext [iblk4, idx4 t]
  · funext u d; unfold X4_1 Pipeline.Window.fill; rw [dif_pos (moved4_1 t _)]; blk_ext [iblk4, idx4 t]
  · funext u d; unfold X4_2 Pipeline.Window.fill; rw [dif_pos (moved4_2 t _)]; blk_ext [iblk4, idx4 t]
  · funext u; unfold X4_3 Pipeline.Window.fill; rw [dif_pos (moved4_3 t _)]; blk_ext [iblk4, idx4 t]
  · apply Fin.ext; blk_simp [idx4 t]

end Cert.KernelIdeal.Val
end
-- ==== Proof.Segment4Value.lean ====
module

public import proofs.«01_k».proof.Proof.AttValue
public import Idealize.ShloMosaic.Lib.Pipeline.ValueKit

/-! Segment 4 of the attention: the array it leaves. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

variable (V : (c : Dev nD) → (b : Ref sig .tc) → Buf (Elt Ideal) ((c : Thread nD τ).loc b))

theorem head0_5 (i : grid5.Coords) (K V : FVec Ideal S1x2048x128 .f32) (B : FVec Ideal S1x1x2048 .f32) (Q : FVec Ideal S1x256x128 .f32) (z : Fin 1) (r : Fin 256) (d : Fin 128) :
    k5_pay6 (F := Ideal) i K V B Q (ix3 z r d)
      = segRow 2048 ((6 + (i 1).val) * 256 + r) (fun d => Q (ix3 0 r d)) (fun t d => K (ix3 0 t d)) (fun t d => V (ix3 0 t d)) (fun t => B (ix3 0 0 t)) d := by
  pointwise [k5_pay6, k5_pay2, k5_pay3, k5_pay4, k5_pay5, mask_val, neg_inf]
  have h := fun (x : Fin 2048) y => causal_word x.val r.val (i 1).val 6 (by omega) (by omega) (i 1).isLt (by omega) y
  simp only [h]
  rfl

theorem head1_5 (i : grid5.Coords) (K V : FVec Ideal S1x2048x128 .f32) (B : FVec Ideal S1x1x2048 .f32) (Q : FVec Ideal S1x256x128 .f32) (z : Fin 1) (r : Fin 256) (d : Fin 128) :
    k5_pay1 (F := Ideal) (k5_pay2 K) (k5_pay3 V) (k5_pay4 B) (k5_pay5 i) Q (ix3 z r d)
      = segRow 2048 ((6 + (i 1).val) * 256 + r) (fun d => Q (ix3 0 r d)) (fun t d => K (ix3 0 t d)) (fun t d => V (ix3 0 t d)) (fun t => B (ix3 0 0 t)) d := by
  pointwise [k5_pay1, k5_pay2, k5_pay3, k5_pay4, k5_pay5, mask_val, neg_inf]
  have h := fun (x : Fin 2048) y => causal_word x.val r.val (i 1).val 6 (by omega) (by omega) (i 1).isLt (by omega) y
  simp only [h]
  rfl

theorem block_5 (i : grid5.Coords) (x0 : Vec Ideal S2x256x128 .f32) (x1 x2 : Vec Ideal S1x2048x128 .f32) (x3 : Vec Ideal S1x1x2048 .f32) (y : S1x256x256.Idx) :
    out5_4 (F := Ideal) i x0 x1 x2 x3 y
      = segRow 2048 ((6 + (i 1).val) * 256 + (y 1).val) (fun d => x0 (ix3 ⟨(y 2).val / 128, by have := (y 2).isLt; change _ < 256 at this; omega⟩ (y 1) d)) (fun t d => x1 (ix3 0 t d)) (fun t d => x2 (ix3 0 t d))
          (fun t => x3 (ix3 0 0 t)) ⟨(y 2).val % 128, Nat.mod_lt _ (by norm_num)⟩ := by
  unfold out5_4
  canon_tiles x h
  · rw [eq_ix3 x]
    refine (head1_5 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega
  · rw [eq_ix3 x]
    refine (head0_5 i _ _ _ _ (x 0) (x 1) (x 2)).trans ?_
    refine segRow_congr ?_ ?_ ?_ ?_ ?_ ?_
    · omega
    · funext d; pointwise; blk_ext
    · funext t d; pointwise
    · funext t d; pointwise
    · funext t; pointwise
    · apply Fin.ext; simp only []; omega

theorem idx5 : ∀ t : Fin cfg5.N, win5_0.index t = ![(grid5.coords t 0).val, 6 + (grid5.coords t 1).val, 0] ∧ win5_1.index t = ![(grid5.coords t 0).val, 0, 0]
    ∧ win5_2.index t = ![(grid5.coords t 0).val, 0, 0] ∧ win5_3.index t = ![(grid5.coords t 0).val, 0, 0] ∧ win5_4.index t = ![(grid5.coords t 0).val, (grid5.coords t 1).val, 0] :=
  (by decide +kernel : ∀ t : Fin grid5.N, _)

set_option maxHeartbeats 1600000 in
theorem att5 (c : Dev nD) : (dat5 V c).arrAt 4 cfg5.N
    = fun j : S6x512x256.Idx => seg 2048 6 (by norm_num) (by norm_num) (V c main_v25_0) (V c main_v25_1) (V c main_v25_2) (V c main_v27) (j 0) (j 1) (j 2) := by
  refine (dat5 V c).arrAt_eq_of_covers 4 _ (by decide +kernel) fun t hf y => ?_
  blk_simp
  rw [after5_4]
  refine (block_5 _ _ _ _ _ y).trans ?_
  unfold seg
  refine segRow_congr ?_ ?_ ?_ ?_ ?_ ?_
  · blk_simp [idx5 t]; omega
  · funext d; blk_ext [iblk5, idx5 t]
  · funext u d; blk_ext [iblk5, idx5 t]
  · funext u d; blk_ext [iblk5, idx5 t]
  · funext u; blk_ext [iblk5, idx5 t]
  · apply Fin.ext; blk_simp [idx5 t]

end Cert.KernelIdeal.Val
end
-- ==== Proof.OutValue.lean ====
module

public import proofs.«01_k».proof.Proof.ProjBody
public import proofs.«01_k».proof.Proof.Rows
public import Idealize.ShloMosaic.Lib.Pipeline.ValueKit

/-! What the output projection leaves, as one formula of the group outputs, the selections and the weights. -/

@[expose] public section
set_option maxRecDepth 16384
noncomputable section
namespace Cert.KernelIdeal.Val
open Cert.KernelIdeal Cert.KernelIdeal.Gen Cert.KernelIdeal.Whole Idealize.ShloMosaic Idealize.ShloMosaic.TcCoe Idealize.SL.Sem
open Idealize.ShloMosaic.Pipeline (Dat)
open Cert.Form

variable (V : (c : Dev nD) → (b : Ref sig .tc) → Buf (Elt Ideal) ((c : Thread nD τ).loc b))

/-- Row `r`, column `n` of the output projection of one block. -/
def outPart {R : ℕ} (O : Fin 6 → Fin R → Fin 256 → EReal) (w : Fin R → BitVec 32) (p : Fin R → EReal) (W : Fin 256 → EReal) (r : Fin R) : EReal :=
  ∑ k : Fin 256, (mixRow (w r) (fun m => O m r k) * p r) * W k

theorem block_6 (x0 : Vec Ideal S6x256x256 .f32) (x1 : Vec Ideal S256x128 .i32) (x2 : Vec Ideal S256x128 .f32) (x3 : Vec Ideal S1024x1024 .f32) (y : S256x1024.Idx) :
    out6_4 (F := Ideal) x0 x1 x2 x3 y
      = outPart (fun m r k => x0 (ix3 m r k)) (fun r => x1 (ix2 r 0)) (fun r => x2 (ix2 r 0)) (fun k => x3 (ix2 ⟨k.val, by omega⟩ (y 1))) (y 0)
      + outPart (fun m r k => x0 (ix3 m r k)) (fun r => x1 (ix2 r 1)) (fun r => x2 (ix2 r 1)) (fun k => x3 (ix2 ⟨256 + k.val, by omega⟩ (y 1))) (y 0)
      + outPart (fun m r k => x0 (ix3 m r k)) (fun r => x1 (ix2 r 2)) (fun r => x2 (ix2 r 2)) (fun k => x3 (ix2 ⟨512 + k.val, by omega⟩ (y 1))) (y 0)
      + outPart (fun m r k => x0 (ix3 m r k)) (fun r => x1 (ix2 r 3)) (fun r => x2 (ix2 r 3)) (fun k => x3 (ix2 ⟨768 + k.val, by omega⟩ (y 1))) (y 0) := by
  unfold out6_4
  canon_tiles x h
  pointwise [k6_pay1, k6_pay2, k6_pay3, k6_pay4, k6_pay5, k6_pay6, k6_pay7, k6_pay8, k6_pay9, k6_pay10, k6_pay11, k6_pay12, k6_pay13, k6_pay14, k6_pay15, k6_pay16, k6_pay17, k6_pay18, k6_pay19, k6_pay20, k6_pay21, k6_pay22, k6_pay23, k6_pay24, k6_pay25, k6_pay26, k6_pay27, k6_pay28, k6_pay29, k6_pay30, k6_pay31, k6_pay32, h0, h1, outPart, mixRow, hit]
  have e0 : (y 0 : Fin 256) = (x 0 : Fin 256) := Fin.ext h0
  have e1 : (y 1 : Fin 1024) = (x 1 : Fin 1024) := Fin.ext h1
  rw [e0, e1]

theorem idx6 : ∀ t : Fin cfg6.N, win6_0.index t = ![0, t.val, 0] ∧ win6_1.index t = ![t.val, 0] ∧ win6_2.index t = ![t.val, 0]
    ∧ win6_3.index t = ![0, 0] ∧ win6_4.index t = ![t.val, 0] :=
  (by decide +kernel : ∀ t : Fin grid6.N, _)

set_option maxHeartbeats 1600000 in
theorem outp (c : Dev nD) : (dat6 V c).arrAt 4 cfg6.N
    = fun j : S2048x1024.Idx =>
      outPart (fun m (r : Fin 2048) k => V c main_v32 (ix3 m r k)) (fun r => V c main_v4_0 (ix2 r 0)) (fun r => V c main_v4_1 (ix2 r 0)) (fun k => V c main_arg5 (ix2 ⟨k.val, by omega⟩ (j 1))) (j 0)
      + outPart (fun m (r : Fin 2048) k => V c main_v32 (ix3 m r k)) (fun r => V c main_v4_0 (ix2 r 1)) (fun r => V c main_v4_1 (ix2 r 1)) (fun k => V c main_arg5 (ix2 ⟨256 + k.val, by omega⟩ (j 1))) (j 0)
      + outPart (fun m (r : Fin 2048) k => V c main_v32 (ix3 m r k)) (fun r => V c main_v4_0 (ix2 r 2)) (fun r => V c main_v4_1 (ix2 r 2)) (fun k => V c main_arg5 (ix2 ⟨512 + k.val, by omega⟩ (j 1))) (j 0)
      + outPart (fun m (r : Fin 2048) k => V c main_v32 (ix3 m r k)) (fun r => V c main_v4_0 (ix2 r 3)) (fun r => V c main_v4_1 (ix2 r 3)) (fun k => V c main_arg5 (ix2 ⟨768 + k.val, by omega⟩ (j 1))) (j 0) := by
  refine (dat6 V c).arrAt_eq_of_covers 4 _ (by decide +kernel) fun t hf y => ?_
  blk_simp
  rw [after6_4]
  refine (block_6 _ _ _ _ y).trans ?_
  refine congrArg₂ (· + ·) (congrArg₂ (· + ·) (congrArg₂ (· + ·) ?_ ?_) ?_) ?_
  all_goals unfold outPart
  all_goals refine Finset.sum_congr rfl fun k _ => ?_
  all_goals refine Ideal.mul_congr (Ideal.mul_congr (mixRow_congr ?_ ?_) ?_) ?_
  all_goals first | (blk_ext [iblk6, idx6 t]; done) | (funext m; blk_ext [iblk6, idx6 t])

end Cert.KernelIdeal.Val
end
-- ==== Proof.ValueEq.lean ====
module

public import proofs.«01_k».proof.Defs
public import proofs.«01_k».proof.Proof.Inputs
public import proofs.«01_k».proof.Proof.AuxLaw
public import proofs.«01_k».proof.Proof.Finite
public import proofs.«01_k».proof.Proof.Segment1Value
public import proofs.«01_k».proof.Proof.Segment2Value
public import proofs.«01_k».proof.Proof.Segment3Value
public import proofs.«01_k».proof.Proof.Segment4Value
public import proofs.«01_k».proof.Proof.OutValue

/-! The kernel's two results are the reference's. -/

@[expose] public section
set_option maxRecDepth 16384
noncomputable section
namespace Cert.ValueEq
open Cert.KernelIdeal Cert.KernelIdeal.Gen Cert.KernelIdeal.Whole Cert.KernelIdeal.Kept Idealize.ShloMosaic Idealize.ShloMosaic.TcCoe Idealize.SL.Sem
open Cert.Form Cert.Pick
open Cert.KernelIdeal.Val (outPart)
open Cert.ReferenceIdeal.Val (A0 A1 A2 A3 A4 A5 lgR qR kR vR cosR sinR scoreR headR outR outR_val auxR auxR_val)

variable {m : (ℓ : Loc nD τ sig) → Buf (Elt Ideal) ℓ} (ρ : Dev nD → PrngReg) {c : Dev nD}
  {V0 : Valuation Cert.ReferenceIdeal.τ Cert.ReferenceIdeal.sig (Elt Ideal)}

/-- A segment's row, where the memory it runs from keeps what the projections and the router left. -/
theorem seg_at (A : Agree m c V0) (R : Reals V0) (V : (c : Dev nD) → (b : Ref sig .tc) → Buf (Elt Ideal) ((c : Thread nD τ).loc b))
    (hV : ∀ a ∈ read2, V c a = W5 m ρ c (Proc.devRef .tc a)) (n q0 : ℕ) (hn : n ≤ 2048) (hq : q0 ≤ 6) (hlen : q0 * 256 + 512 ≤ n)
    (g : Fin 6) (r : Fin 512) (l : Fin 256) (s : Fin 2048) (hs : s.val = q0 * 256 + r.val) (hc : chosen (lgR V0 s) g.val) :
    Cert.KernelIdeal.Val.seg n q0 hn hq (V c main_v25_0) (V c main_v25_1) (V c main_v25_2) (V c main_v27) g r l
      = headR V0 s g ⟨l.val / 128, by omega⟩ ⟨l.val % 128, by omega⟩ := by
  refine seg_head V0 n q0 hn hq hlen _ _ _ _ ?_ ?_ ?_ ?_ (q_real R) (k_real R) g r l s hs hc
  · exact fun h s d => (congrFun ((hV main_v25_0 (by decide)).trans (W5_of m ρ c main_v25_0 (by decide +kernel))) (ix3 h s d)).trans (q_at4 ρ A h s d)
  · exact fun g s d => (congrFun ((hV main_v25_1 (by decide)).trans (W5_of m ρ c main_v25_1 (by decide +kernel))) (ix3 g s d)).trans (k_at4 ρ A g s d)
  · exact fun g s d => (congrFun ((hV main_v25_2 (by decide)).trans (W5_of m ρ c main_v25_2 (by decide +kernel))) (ix3 g s d)).trans (v_at4 ρ A g s d)
  · exact fun g t => (congrFun (hV main_v27 (by decide)) (ix3 g 0 t)).trans (b_at5 ρ A R g t)

theorem seg1 (A : Agree m c V0) (R : Reals V0) (g : Fin 6) (r : Fin 512) (l : Fin 256) (s : Fin 2048) (hs : s.val = 0 * 256 + r.val) (hc : chosen (lgR V0 s) g.val) :
    (W9 m ρ c (Proc.devRef .tc main_v28) : FVec Ideal S6x512x256 .f32) (ix3 g r l) = headR V0 s g ⟨l.val / 128, by omega⟩ ⟨l.val % 128, by omega⟩ :=
  (congrFun ((seg1_at9 m ρ c).trans ((W6_arr m ρ c 4).trans (Cert.KernelIdeal.Val.att2 (V5 m ρ) c))) (ix3 g r l)).trans
    (seg_at ρ A R (V5 m ρ) (fun _ _ => rfl) 512 0 (by norm_num) (by norm_num) (by norm_num) g r l s hs hc)

theorem seg2 (A : Agree m c V0) (R : Reals V0) (g : Fin 6) (r : Fin 512) (l : Fin 256) (s : Fin 2048) (hs : s.val = 2 * 256 + r.val) (hc : chosen (lgR V0 s) g.val) :
    (W9 m ρ c (Proc.devRef .tc main_v29) : FVec Ideal S6x512x256 .f32) (ix3 g r l) = headR V0 s g ⟨l.val / 128, by omega⟩ ⟨l.val % 128, by omega⟩ :=
  (congrFun ((seg2_at9 m ρ c).trans ((W7_arr m ρ c 4).trans (Cert.KernelIdeal.Val.att3 (V6 m ρ) c))) (ix3 g r l)).trans
    (seg_at ρ A R (V6 m ρ) (at6 m ρ c) 1024 2 (by norm_num) (by norm_num) (by norm_num) g r l s hs hc)

theorem seg3 (A : Agree m c V0) (R : Reals V0) (g : Fin 6) (r : Fin 512) (l : Fin 256) (s : Fin 2048) (hs : s.val = 4 * 256 + r.val) (hc : chosen (lgR V0 s) g.val) :
    (W9 m ρ c (Proc.devRef .tc main_v30) : FVec Ideal S6x512x256 .f32) (ix3 g r l) = headR V0 s g ⟨l.val / 128, by omega⟩ ⟨l.val % 128, by omega⟩ :=
  (congrFun ((seg3_at9 m ρ c).trans ((W8_arr m ρ c 4).trans (Cert.KernelIdeal.Val.att4 (V7 m ρ) c))) (ix3 g r l)).trans
    (seg_at ρ A R (V7 m ρ) (at7 m ρ c) 1536 4 (by norm_num) (by norm_num) (by norm_num) g r l s hs hc)

theorem seg4 (A : Agree m c V0) (R : Reals V0) (g : Fin 6) (r : Fin 512) (l : Fin 256) (s : Fin 2048) (hs : s.val = 6 * 256 + r.val) (hc : chosen (lgR V0 s) g.val) :
    (W9 m ρ c (Proc.devRef .tc main_v31) : FVec Ideal S6x512x256 .f32) (ix3 g r l) = headR V0 s g ⟨l.val / 128, by omega⟩ ⟨l.val % 128, by omega⟩ :=
  (congrFun ((W9_arr m ρ c 4).trans (Cert.KernelIdeal.Val.att5 (V8 m ρ) c)) (ix3 g r l)).trans
    (seg_at ρ A R (V8 m ρ) (at8 m ρ c) 2048 6 (by norm_num) (by norm_num) (by norm_num) g r l s hs hc)

/-- The joined segments' row of a chosen group. -/
theorem rows_at10 (A : Agree m c V0) (R : Reals V0) (g : Fin 6) (s : Fin 2048) (l : Fin 256) (hc : chosen (lgR V0 s) g.val) :
    (V10 m ρ c main_v32 : FVec Ideal S6x2048x256 .f32) (ix3 g s l) = headR V0 s g ⟨l.val / 128, by omega⟩ ⟨l.val % 128, by omega⟩ := by
  refine (congrFun (Cert.KernelIdeal.Host.v32_after (W9 m ρ c)) (ix3 g s l)).trans ((Cert.KernelIdeal.Host.joined _ _ _ _ g s l).trans ?_)
  split
  · exact seg1 ρ A R g _ l s (by show s.val = 0 * 256 + s.val; omega) hc
  · split
    · exact seg2 ρ A R g _ l s (by show s.val = 2 * 256 + (s.val - 512); omega) hc
    · split
      · exact seg3 ρ A R g _ l s (by show s.val = 4 * 256 + (s.val - 1024); omega) hc
      · exact seg4 ρ A R g _ l s (by show s.val = 6 * 256 + (s.val - 1536); omega) hc

/-- One of the four chosen groups' part of the output projection. -/
theorem part_eq (A : Agree m c V0) (R : Reals V0) (s : Fin 2048) (n : Fin 1024) (a : Fin 4) (x : Fin 128) (i : Fin 256 → Fin 1024)
    (hk : four (fun a => BitVec.ofNat 32 (ord (lgR V0 s) a).val) 0#32 x.val = BitVec.ofNat 32 (ord (lgR V0 s) ⟨a.val, by omega⟩).val)
    (hw : four (wt (lgR V0 s)) 0 x.val = wt (lgR V0 s) ⟨a.val, by omega⟩)
    (hi : ∀ k, (i k).val = a.val * 256 + k.val) (hc : chosen (lgR V0 s) (ord (lgR V0 s) ⟨a.val, by omega⟩).val) :
    outPart (fun m' (r : Fin 2048) k => V10 m ρ c main_v32 (ix3 m' r k)) (fun r => V10 m ρ c main_v4_0 (ix2 r x)) (fun r => V10 m ρ c main_v4_1 (ix2 r x)) (fun k => V10 m ρ c main_arg5 (ix2 (i k) n)) s
      = ∑ k : Fin 256, headR V0 s (ord (lgR V0 s) ⟨a.val, by omega⟩) ⟨k.val / 128, by omega⟩ ⟨k.val % 128, by omega⟩ * wt (lgR V0 s) ⟨a.val, by omega⟩ * A5 V0 (ix2 ⟨a.val * 256 + k.val, by omega⟩ n) := by
  unfold outPart
  refine Finset.sum_congr rfl fun k _ => ?_
  have e1 : V10 m ρ c main_v4_0 (ix2 s x) = BitVec.ofNat 32 (ord (lgR V0 s) ⟨a.val, by omega⟩).val :=
    (congrFun (routed_at10 m ρ c main_v4_0 (by decide)) (ix2 s x)).trans ((kvi_at2 ρ A R s x).trans hk)
  have e2 : V10 m ρ c main_v4_1 (ix2 s x) = wt (lgR V0 s) ⟨a.val, by omega⟩ :=
    (congrFun (routed_at10 m ρ c main_v4_1 (by decide)) (ix2 s x)).trans ((kvw_at2 ρ A R s x).trans hw)
  have e3 : V10 m ρ c main_arg5 (ix2 (i k) n) = A5 V0 (ix2 ⟨a.val * 256 + k.val, by omega⟩ n) := by
    have : i k = ⟨a.val * 256 + k.val, by omega⟩ := Fin.ext (hi k)
    rw [this]
    exact congrFun ((W10_args m ρ c main_arg5 (by decide)).trans A.a5.symm) (ix2 ⟨a.val * 256 + k.val, by omega⟩ n)
  refine congrArg₂ (fun u v : EReal => u * v) (congrArg₂ (fun u v : EReal => u * v) ?_ e2) e3
  refine (mixRow_congr e1 rfl).trans ((mixRow_nat _ _).trans ?_)
  exact rows_at10 ρ A R _ s k hc

/-- The output. -/
theorem out_eq (A : Agree m c V0) (R : Reals V0) : (W12 m ρ c (Proc.devRef .tc main_v34) : FVec Ideal S1x2048x1024 .f32) = outR V0 := by
  funext j
  obtain ⟨s, n, rfl⟩ : ∃ (s : Fin 2048) (n : Fin 1024), j = ix3 0 s n := ⟨j 1, j 2, by
    have h := eq_ix3 j
    have h0 : j 0 = (0 : Fin 1) := Subsingleton.elim (α := Fin 1) _ _
    rw [h0] at h; exact h⟩
  refine (congrFun (Cert.KernelIdeal.Host.v34_after (W11 m ρ c)) (ix3 0 s n)).trans ((Cert.KernelIdeal.Host.out_cast _ s n).trans ?_)
  refine (congrFun ((W11_arr m ρ c 4).trans (Cert.KernelIdeal.Val.outp (V10 m ρ) c)) (ix2 s n)).trans ?_
  rw [outR_val, Fin.sum_univ_four]
  refine congrArg₂ (fun u v : EReal => u + v) (congrArg₂ (fun u v : EReal => u + v) (congrArg₂ (fun u v : EReal => u + v) ?_ ?_) ?_) ?_
  · exact part_eq ρ A R s n 0 0 _ rfl rfl (fun k => by show k.val = 0 * 256 + k.val; omega) (Or.inl rfl)
  · exact part_eq ρ A R s n 1 1 _ rfl rfl (fun k => by show 256 + k.val = 1 * 256 + k.val; omega) (Or.inr (Or.inl rfl))
  · exact part_eq ρ A R s n 2 2 _ rfl rfl (fun k => by show 512 + k.val = 2 * 256 + k.val; omega) (Or.inr (Or.inr (Or.inl rfl)))
  · exact part_eq ρ A R s n 3 3 _ rfl rfl (fun k => by show 768 + k.val = 3 * 256 + k.val; omega) (Or.inr (Or.inr (Or.inr rfl)))

/-- The auxiliary loss. -/
theorem aux_eq (A : Agree m c V0) (R : Reals V0) : (W12 m ρ c (Proc.devRef .tc main_v35) : FVec Ideal S_ .f32) = auxR V0 := by
  funext j
  obtain rfl : j = ix0 := funext fun i => i.elim0
  refine (congrFun (Cert.KernelIdeal.Host.v35_after (W11 m ρ c)) ix0).trans ((Cert.KernelIdeal.Host.aux_cast _).trans ?_)
  refine (congrFun (aux_at11 m ρ c) (ix2 0 0)).trans ((aux_at2 ρ A R).trans ?_)
  rw [auxR_val]
  exact aux_law (lgR V0) (lg_real R)

/-- The two programs, from memories agreeing on the arguments, end with equal results. -/
theorem algebraic : Cert.algebraic_KernelIdeal_ReferenceIdeal_pre_scores_finite := by
  intro m g m' g' hpre hargs
  have A : ∀ c : Dev nD, Agree m c (StableHlo.launchContents m' c) := fun c =>
    ⟨(hargs c).1, (hargs c).2.1, (hargs c).2.2.1, (hargs c).2.2.2.1, (hargs c).2.2.2.2.1, (hargs c).2.2.2.2.2⟩
  have R : ∀ c : Dev nD, Reals (StableHlo.launchContents m' c) := fun c => by
    obtain ⟨h0, h1, h2, h4⟩ := Cert.Pre_scores_finite.Gen.reals _ _ _ _ _ _ (hpre c)
    exact ⟨fun i => by rw [(A c).a0]; exact h0 i, fun i => by rw [(A c).a1]; exact h1 i, fun i => by rw [(A c).a2]; exact h2 i, fun i => by rw [(A c).a4]; exact h4 i⟩
  refine ⟨fun c => W12 m g c (Proc.devRef .tc main_v34), fun c => W12 m g c (Proc.devRef .tc main_v35), ?_, ?_⟩
  · refine (θ_run defs _ _).mono (fun r h c => ?_) (run_all m g)
    have h' := h.1 c
    exact ⟨h' _ (mem_uc main_v34 (by decide)), h' _ (mem_uc main_v35 (by decide)),
      (h' _ (mem_uc main_arg0 (by decide))).trans (W12_main_arg0 m g c), (h' _ (mem_uc main_arg1 (by decide))).trans (W12_main_arg1 m g c),
      (h' _ (mem_uc main_arg2 (by decide))).trans (W12_main_arg2 m g c), (h' _ (mem_uc main_arg3 (by decide))).trans (W12_main_arg3 m g c),
      (h' _ (mem_uc main_arg4 (by decide))).trans (W12_main_arg4 m g c), (h' _ (mem_uc main_arg5 (by decide))).trans (W12_main_arg5 m g c)⟩
  · refine (θ_run Cert.ReferenceIdeal.defs _ _).mono (fun r h c => ?_) (Cert.ReferenceIdeal.Value.run m' g')
    exact ⟨(h c).1.trans (out_eq g (A c) (R c)).symm, (h c).2.1.trans (aux_eq g (A c) (R c)).symm, (h c).2.2⟩

end Cert.ValueEq
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Finite
public import proofs.«01_k».proof.Proof.WholeRun
public import proofs.«01_k».proof.Proof.PrintedWholeRun
public import proofs.«01_k».proof.Proof.ValueEq
public import Idealize.ShloMosaic.Init

@[expose] public section

noncomputable section

namespace Cert.Proof

open Idealize.ShloMosaic Idealize.SL.Sem

/-- The kernel as printed runs, returns its arguments and ends with every counter at zero. -/
theorem frame_printed : Cert.quiescent_Kernel := fun m g _ => Cert.Kernel.Whole.frame m g

/-- So does the kernel over the extended reals. -/
theorem frame_ideal : Cert.quiescent_KernelIdeal := fun m g _ => Cert.KernelIdeal.Whole.frame m g

/-- So does the reference: it declares no semaphore, and no operation writes an argument. -/
theorem frame_reference : Cert.quiescent_ReferenceIdeal := fun m g _ =>
  (θ_run Cert.ReferenceIdeal.defs _ _).mono (fun r h => ⟨fun c => (h c).2.2,
    Idealize.ShloMosaic.sem_eq_zero_of_no_sems (by decide) r.2⟩) (Cert.ReferenceIdeal.Value.run m g)

/-- Both constants that stand for a mask are minus infinity. -/
theorem preserves : Cert.preserves_Kernel_KernelIdeal :=
  ⟨IdealRules.named_const.statement Cert.KernelIdeal.κ "absent" .f32 0xF149F2CA#32 ⊥ rfl,
   IdealRules.named_const.statement Cert.KernelIdeal.κ "mask" .f32 0xCE6E6B28#32 ⊥ rfl⟩

theorem claim : Cert.Claim := ⟨Cert.Kernel.Gen.facts, Cert.KernelIdeal.Gen.facts, Cert.ReferenceIdeal.Gen.facts,
  Cert.Pre_scores_finite.Gen.facts, frame_printed, frame_ideal, fun m g _ => Cert.KernelIdeal.Whole.frame m g, frame_reference, fun m g _ => frame_reference m g trivial, preserves, Cert.ValueEq.algebraic⟩

end Cert.Proof

end
